-- ==== Defs.lean ====
def Pre_Kernel [hPre_indices_in_range : Cert.Pre_indices_in_range.Facts] (m : (ℓ : Loc Cert.Kernel.nD Cert.Kernel.τ Cert.Kernel.sig) → Buf (Elt Bits) ℓ) : Prop :=
  ∀ c : Dev Cert.Kernel.nD,
    (Cert.Pre_indices_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_indices_in_range : Cert.Pre_indices_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_in_range_and_finite [hPre_in_range_and_finite : Cert.Pre_in_range_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_and_finite [hPre_in_range_and_finite : Cert.Pre_in_range_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_indices_in_range : Cert.Pre_indices_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range_and_finite [hKernelIdeal : Cert.KernelIdeal.Facts] [hPre_in_range_and_finite : Cert.Pre_in_range_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_and_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range_and_finite [hReferenceIdeal : Cert.ReferenceIdeal.Facts] [hPre_in_range_and_finite : Cert.Pre_in_range_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv_layers" .f32 0x3DE38E39#32 ((9⁻¹ : ℝ) : EReal)

def algebraic_KernelIdeal_ReferenceIdeal_pre_in_range_and_finite [hKernelIdeal : Cert.KernelIdeal.Facts] [hReferenceIdeal : Cert.ReferenceIdeal.Facts] [hPre_in_range_and_finite : Cert.Pre_in_range_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_indices_in_range : Cert.Pre_indices_in_range.Facts) (hPre_in_range_and_finite : Cert.Pre_in_range_and_finite.Facts),
    quiescent_Kernel (hKernel := hKernel) (hPre_indices_in_range := hPre_indices_in_range)
    ∧ quiescent_KernelIdeal (hKernelIdeal := hKernelIdeal) (hPre_indices_in_range := hPre_indices_in_range)
    ∧ quiescent_KernelIdeal_pre_in_range_and_finite (hKernelIdeal := hKernelIdeal) (hPre_in_range_and_finite := hPre_in_range_and_finite)
    ∧ quiescent_ReferenceIdeal (hReferenceIdeal := hReferenceIdeal)
    ∧ quiescent_ReferenceIdeal_pre_in_range_and_finite (hReferenceIdeal := hReferenceIdeal) (hPre_in_range_and_finite := hPre_in_range_and_finite)
    ∧ preserves_Kernel_KernelIdeal
    ∧ algebraic_KernelIdeal_ReferenceIdeal_pre_in_range_and_finite (hKernelIdeal := hKernelIdeal) (hReferenceIdeal := hReferenceIdeal) (hPre_in_range_and_finite := hPre_in_range_and_finite)
-- ==== Pre_in_range_and_finite.lean ====
abbrev S9x2049x2049 : Shape := ⟨3, ![9, 2049, 2049]⟩
abbrev S1024x2 : Shape := ⟨2, ![1024, 2]⟩
abbrev S512 : Shape := ⟨1, ![512]⟩
abbrev S_ : Shape := ⟨0, ![]⟩

class Facts : Prop where
  bcast_S_S1024x2 : S_.BroadcastsInDim S1024x2 (![] : Fin 0 → Fin S1024x2.rank)
  reducesTo_S1024x2_S_d0_1 : S1024x2.ReducesTo [0, 1] S_
  h_S_ : 0 < S_.numel
  bcast_S_S512 : S_.BroadcastsInDim S512 (![] : Fin 0 → Fin S512.rank)
  reducesTo_S512_S_d0 : S512.ReducesTo [0] S_
  bcast_S_S9x2049x2049 : S_.BroadcastsInDim S9x2049x2049 (![] : Fin 0 → Fin S9x2049x2049.rank)
  reducesTo_S9x2049x2049_S_d0_1_2 : S9x2049x2049.ReducesTo [0, 1, 2] S_

variable [Facts]

def fn_part1 {F : FTy → Type} [FloatOps F] (main_arg0 : FVec F S9x2049x2049 .f32) (main_arg3 : IVec S512 32) (main_v12 : IVec S_ 1) (main_v14 : IVec S512 1) (main_v15 : IVec S512 32) : IVec S_ 1 :=
  let main_v16 : IVec S512 1 := cmpi .slt main_arg3 main_v15
  let main_v17 : IVec S512 1 := andi main_v14 main_v16
  let main_c_7 : IVec S_ 1 := constantI S_ 1 1#1
  let main_v18 : IVec S_ 1 := (fun x v => Host.reduce IntOp.andi x v reducesTo_S512_S_d0 h_S_) main_v17 main_c_7
  let main_v19 : IVec S_ 1 := andi main_v12 main_v18
  let main_v20 : FVec F S9x2049x2049 .f32 := Host.absf main_arg0
  let main_cst : FVec F S_ .f32 := constant S_ .f32 0x7F800000#32
  let main_v21 : FVec F S9x2049x2049 .f32 := broadcastInDim S9x2049x2049 ![] bcast_S_S9x2049x2049 main_cst
  let main_v22 : IVec S9x2049x2049 1 := cmpf .olt main_v20 main_v21
  let main_c_8 : IVec S_ 1 := constantI S_ 1 1#1
  let main_v23 : IVec S_ 1 := (fun x v => Host.reduce IntOp.andi x v reducesTo_S9x2049x2049_S_d0_1_2 h_S_) main_v22 main_c_8
  let main_v24 : IVec S_ 1 := andi main_v19 main_v23
  main_v24

def fn {F : FTy → Type} [FloatOps F] (main_arg0 : FVec F S9x2049x2049 .f32) (main_arg1 : IVec S1024x2 32) (main_arg2 : IVec S512 32) (main_arg3 : IVec S512 32) : IVec S_ 1 :=
  let main_c : IVec S_ 32 := constantI S_ 32 0#32
  let main_v0 : IVec S1024x2 32 := broadcastInDim S1024x2 ![] bcast_S_S1024x2 main_c
  let main_v1 : IVec S1024x2 1 := cmpi .sge main_arg1 main_v0
  let main_c_0 : IVec S_ 32 := constantI S_ 32 2048#32
  let main_v2 : IVec S1024x2 32 := broadcastInDim S1024x2 ![] bcast_S_S1024x2 main_c_0
  let main_v3 : IVec S1024x2 1 := cmpi .slt main_arg1 main_v2
  let main_v4 : IVec S1024x2 1 := andi main_v1 main_v3
  let main_c_1 : IVec S_ 1 := constantI S_ 1 1#1
  let main_v5 : IVec S_ 1 := (fun x v => Host.reduce IntOp.andi x v reducesTo_S1024x2_S_d0_1 h_S_) main_v4 main_c_1
  let main_c_2 : IVec S_ 32 := constantI S_ 32 0#32
  let main_v6 : IVec S512 32 := broadcastInDim S512 ![] bcast_S_S512 main_c_2
  let main_v7 : IVec S512 1 := cmpi .sge main_arg2 main_v6
  let main_c_3 : IVec S_ 32 := constantI S_ 32 2048#32
  let main_v8 : IVec S512 32 := broadcastInDim S512 ![] bcast_S_S512 main_c_3
  let main_v9 : IVec S512 1 := cmpi .slt main_arg2 main_v8
  let main_v10 : IVec S512 1 := andi main_v7 main_v9
  let main_c_4 : IVec S_ 1 := constantI S_ 1 1#1
  let main_v11 : IVec S_ 1 := (fun x v => Host.reduce IntOp.andi x v reducesTo_S512_S_d0 h_S_) main_v10 main_c_4
  let main_v12 : IVec S_ 1 := andi main_v5 main_v11
  let main_c_5 : IVec S_ 32 := constantI S_ 32 0#32
  let main_v13 : IVec S512 32 := broadcastInDim S512 ![] bcast_S_S512 main_c_5
  let main_v14 : IVec S512 1 := cmpi .sge main_arg3 main_v13
  let main_c_6 : IVec S_ 32 := constantI S_ 32 2048#32
  let main_v15 : IVec S512 32 := broadcastInDim S512 ![] bcast_S_S512 main_c_6
  fn_part1 (F := F) main_arg0 main_arg3 main_v12 main_v14 main_v15
-- ==== Pre_indices_in_range.lean ====
abbrev S9x2049x2049 : Shape := ⟨3, ![9, 2049, 2049]⟩
abbrev S1024x2 : Shape := ⟨2, ![1024, 2]⟩
abbrev S512 : Shape := ⟨1, ![512]⟩
abbrev S_ : Shape := ⟨0, ![]⟩

class Facts : Prop where
  bcast_S_S1024x2 : S_.BroadcastsInDim S1024x2 (![] : Fin 0 → Fin S1024x2.rank)
  reducesTo_S1024x2_S_d0_1 : S1024x2.ReducesTo [0, 1] S_
  h_S_ : 0 < S_.numel
  bcast_S_S512 : S_.BroadcastsInDim S512 (![] : Fin 0 → Fin S512.rank)
  reducesTo_S512_S_d0 : S512.ReducesTo [0] S_

variable [Facts]

def fn_part1 {F : FTy → Type} [FloatOps F] (main_arg3 : IVec S512 32) (main_v12 : IVec S_ 1) (main_v14 : IVec S512 1) (main_v15 : IVec S512 32) : IVec S_ 1 :=
  let main_v16 : IVec S512 1 := cmpi .slt main_arg3 main_v15
  let main_v17 : IVec S512 1 := andi main_v14 main_v16
  let main_c_7 : IVec S_ 1 := constantI S_ 1 1#1
  let main_v18 : IVec S_ 1 := (fun x v => Host.reduce IntOp.andi x v reducesTo_S512_S_d0 h_S_) main_v17 main_c_7
  let main_v19 : IVec S_ 1 := andi main_v12 main_v18
  main_v19

def fn {F : FTy → Type} [FloatOps F] (main_arg0 : FVec F S9x2049x2049 .f32) (main_arg1 : IVec S1024x2 32) (main_arg2 : IVec S512 32) (main_arg3 : IVec S512 32) : IVec S_ 1 :=
  let main_c : IVec S_ 32 := constantI S_ 32 0#32
  let main_v0 : IVec S1024x2 32 := broadcastInDim S1024x2 ![] bcast_S_S1024x2 main_c
  let main_v1 : IVec S1024x2 1 := cmpi .sge main_arg1 main_v0
  let main_c_0 : IVec S_ 32 := constantI S_ 32 2048#32
  let main_v2 : IVec S1024x2 32 := broadcastInDim S1024x2 ![] bcast_S_S1024x2 main_c_0
  let main_v3 : IVec S1024x2 1 := cmpi .slt main_arg1 main_v2
  let main_v4 : IVec S1024x2 1 := andi main_v1 main_v3
  let main_c_1 : IVec S_ 1 := constantI S_ 1 1#1
  let main_v5 : IVec S_ 1 := (fun x v => Host.reduce IntOp.andi x v reducesTo_S1024x2_S_d0_1 h_S_) main_v4 main_c_1
  let main_c_2 : IVec S_ 32 := constantI S_ 32 0#32
  let main_v6 : IVec S512 32 := broadcastInDim S512 ![] bcast_S_S512 main_c_2
  let main_v7 : IVec S512 1 := cmpi .sge main_arg2 main_v6
  let main_c_3 : IVec S_ 32 := constantI S_ 32 2048#32
  let main_v8 : IVec S512 32 := broadcastInDim S512 ![] bcast_S_S512 main_c_3
  let main_v9 : IVec S512 1 := cmpi .slt main_arg2 main_v8
  let main_v10 : IVec S512 1 := andi main_v7 main_v9
  let main_c_4 : IVec S_ 1 := constantI S_ 1 1#1
  let main_v11 : IVec S_ 1 := (fun x v => Host.reduce IntOp.andi x v reducesTo_S512_S_d0 h_S_) main_v10 main_c_4
  let main_v12 : IVec S_ 1 := andi main_v5 main_v11
  let main_c_5 : IVec S_ 32 := constantI S_ 32 0#32
  let main_v13 : IVec S512 32 := broadcastInDim S512 ![] bcast_S_S512 main_c_5
  let main_v14 : IVec S512 1 := cmpi .sge main_arg3 main_v13
  let main_c_6 : IVec S_ 32 := constantI S_ 32 2048#32
  let main_v15 : IVec S512 32 := broadcastInDim S512 ![] bcast_S_S512 main_c_6
  fn_part1 (F := F) main_arg3 main_v12 main_v14 main_v15
-- ==== Kernel.lean ====
abbrev S9x2049x2049 : Shape := ⟨3, ![9, 2049, 2049]⟩
abbrev S1024x2 : Shape := ⟨2, ![1024, 2]⟩
abbrev S512 : Shape := ⟨1, ![512]⟩
abbrev S1024x1 : Shape := ⟨2, ![1024, 1]⟩
abbrev S1024 : Shape := ⟨1, ![1024]⟩
abbrev S_ : Shape := ⟨0, ![]⟩
abbrev S2048 : Shape := ⟨1, ![2048]⟩
abbrev S37785609 : Shape := ⟨1, ![37785609]⟩
abbrev S16 : Shape := ⟨1, ![16]⟩
abbrev S128 : Shape := ⟨1, ![128]⟩
abbrev S16x16 : Shape := ⟨2, ![16, 16]⟩
abbrev S1x16 : Shape := ⟨2, ![1, 16]⟩
abbrev S10 : Shape := ⟨1, ![10]⟩

abbrev nBuf : Table → Nat
  | .hbm => 25
  | .shared => 1
  | .local .scVector .vmem => 19
  | _ => 0

abbrev bufTy : (tb : Table) → Fin (nBuf tb) → BufTy
  | .hbm, ⟨0, _⟩ => ⟨S9x2049x2049, .f32⟩
  | .hbm, ⟨1, _⟩ => ⟨S1024x2, .i32⟩
  | .hbm, ⟨2, _⟩ => ⟨S512, .i32⟩
  | .hbm, ⟨3, _⟩ => ⟨S512, .i32⟩
  | .hbm, ⟨4, _⟩ => ⟨S1024x1, .i32⟩
  | .hbm, ⟨5, _⟩ => ⟨S1024, .i32⟩
  | .hbm, ⟨6, _⟩ => ⟨S1024x1, .i32⟩
  | .hbm, ⟨7, _⟩ => ⟨S1024, .i32⟩
  | .hbm, ⟨8, _⟩ => ⟨S_, .i32⟩
  | .hbm, ⟨9, _⟩ => ⟨S1024, .i32⟩
  | .hbm, ⟨10, _⟩ => ⟨S1024, .i32⟩
  | .hbm, ⟨11, _⟩ => ⟨S1024, .i32⟩
  | .hbm, ⟨12, _⟩ => ⟨S_, .i32⟩
  | .hbm, ⟨13, _⟩ => ⟨S512, .i32⟩
  | .hbm, ⟨14, _⟩ => ⟨S512, .i32⟩
  | .hbm, ⟨15, _⟩ => ⟨S_, .i32⟩
  | .hbm, ⟨16, _⟩ => ⟨S512, .i32⟩
  | .hbm, ⟨17, _⟩ => ⟨S512, .i32⟩
  | .hbm, ⟨18, _⟩ => ⟨S_, .i32⟩
  | .hbm, ⟨19, _⟩ => ⟨S512, .i32⟩
  | .hbm, ⟨20, _⟩ => ⟨S512, .i32⟩
  | .hbm, ⟨21, _⟩ => ⟨S2048, .i32⟩
  | .hbm, ⟨22, _⟩ => ⟨S37785609, .f32⟩
  | .hbm, ⟨23, _⟩ => ⟨S16, .f32⟩
  | .hbm, ⟨24, _⟩ => ⟨S10, .f32⟩
  | .shared, ⟨0, _⟩ => ⟨S16x16, .f32⟩
  | .local .scVector .vmem, ⟨0, _⟩ => ⟨S128, .i32⟩
  | .local .scVector .vmem, ⟨1, _⟩ => ⟨S128, .i32⟩
  | .local .scVector .vmem, ⟨2, _⟩ => ⟨S128, .i32⟩
  | .local .scVector .vmem, ⟨3, _⟩ => ⟨S128, .i32⟩
  | .local .scVector .vmem, ⟨4, _⟩ => ⟨S128, .i32⟩
  | .local .scVector .vmem, ⟨5, _⟩ => ⟨S128, .i32⟩
  | .local .scVector .vmem, ⟨6, _⟩ => ⟨S128, .i32⟩
  | .local .scVector .vmem, ⟨7, _⟩ => ⟨S128, .i32⟩
  | .local .scVector .vmem, ⟨8, _⟩ => ⟨S128, .i32⟩
  | .local .scVector .vmem, ⟨9, _⟩ => ⟨S128, .i32⟩
  | .local .scVector .vmem, ⟨10, _⟩ => ⟨S128, .i32⟩
  | .local .scVector .vmem, ⟨11, _⟩ => ⟨S128, .i32⟩
  | .local .scVector .vmem, ⟨12, _⟩ => ⟨S128, .i32⟩
  | .local .scVector .vmem, ⟨13, _⟩ => ⟨S128, .i32⟩
  | .local .scVector .vmem, ⟨14, _⟩ => ⟨S128, .i32⟩
  | .local .scVector .vmem, ⟨15, _⟩ => ⟨S128, .i32⟩
  | .local .scVector .vmem, ⟨16, _⟩ => ⟨S2048, .f32⟩
  | .local .scVector .vmem, ⟨17, _⟩ => ⟨S16, .f32⟩
  | .local .scVector .vmem, ⟨18, _⟩ => ⟨S16x16, .f32⟩
  | _, _ => ⟨S9x2049x2049, .f32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 20 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | _ => false

abbrev sig : RefSig :=
  ofTables nBuf rfl bufTy 5 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v14_scv : Ref sig .scVector := ⟨.hbm, 22, rfl⟩
abbrev main_v13_scv : Ref sig .scVector := ⟨.hbm, 21, rfl⟩
abbrev main_v15_scv : Ref sig .scVector := ⟨.hbm, 23, rfl⟩
abbrev cc0_scratch19 : Ref sig .scVector := ⟨.shared, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc0_scratch12 : Ref sig .scVector := ⟨.vmem, 12, rfl⟩
abbrev cc0_scratch13 : Ref sig .scVector := ⟨.vmem, 13, rfl⟩
abbrev cc0_scratch14 : Ref sig .scVector := ⟨.vmem, 14, rfl⟩
abbrev cc0_scratch15 : Ref sig .scVector := ⟨.vmem, 15, rfl⟩
abbrev cc0_scratch16 : Ref sig .scVector := ⟨.vmem, 16, rfl⟩
abbrev cc0_scratch17 : Ref sig .scVector := ⟨.vmem, 17, rfl⟩
abbrev cc0_scratch18 : Ref sig .scVector := ⟨.vmem, 18, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c9_i32 : BitVec 32 := 9#32
  let v1 : BitVec 1 := Scalar.cmpi .slt arg1 c9_i32
  let v2 : BitVec 1 := Scalar.andi v0 v1
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg1 : BitVec 32 := BitVec.ofNat 32 (i 1).val
  let c0_i32_439_r16 : BitVec 32 := 0#32
  ![arg1.toNat, 0]
def k0_cond2 (i : grid0.Coords) : BitVec 1 :=
  let arg0 : BitVec 32 := BitVec.ofNat 32 (i 0).val
  let c0_i32_1 : BitVec 32 := 0#32
  let v5 : BitVec 1 := Scalar.cmpi .eq arg0 c0_i32_1
  let arg1 : BitVec 32 := BitVec.ofNat 32 (i 1).val
  let c0_i32_2 : BitVec 32 := 0#32
  let v6 : BitVec 1 := Scalar.cmpi .eq arg1 c0_i32_2
  let v7 : BitVec 1 := Scalar.andi v5 v6
  let v8 : BitVec 32 := Scalar.extui v7
  let c0_i32_3 : BitVec 32 := 0#32
  let v9 : BitVec 1 := Scalar.cmpi .ne v8 c0_i32_3
  v9

def k0_chk1 (i : grid0.Coords) (v17 : IVec S16 32) : Prop :=
  (∀ (k0_h2 : k0_cond2 i = 1#1), ∀ a x, ((![v17] : Fin 1 → IVec S16 32) a x).toNat < S16.size a)
theorem k0_idx1_inb : ∀ (i : grid0.Coords) (v17 : IVec S16 32) (k0_hw1 : k0_chk1 i v17), ∀ (k0_h2 : k0_cond2 i = 1#1), ∀ a x, ((![v17] : Fin 1 → IVec S16 32) a x).toNat < S16.size a := fun i v17 k0_hw1 k0_h2 => k0_hw1 k0_h2

def k0_chk2 (i : grid0.Coords) (v22 : IVec S16 32) : Prop :=
  (∀ (k0_h2 : k0_cond2 i = 1#1), ∀ a x, ((![v22] : Fin 1 → IVec S16 32) a x).toNat < S16.size a)
theorem k0_idx2_inb : ∀ (i : grid0.Coords) (v22 : IVec S16 32) (k0_hw2 : k0_chk2 i v22), ∀ (k0_h2 : k0_cond2 i = 1#1), ∀ a x, ((![v22] : Fin 1 → IVec S16 32) a x).toNat < S16.size a := fun i v22 k0_hw2 k0_h2 => k0_hw2 k0_h2

def k0_chk3 (i : grid0.Coords) (v27 : IVec S16 32) : Prop :=
  (∀ (k0_h2 : k0_cond2 i = 1#1), ∀ a x, ((![v27] : Fin 1 → IVec S16 32) a x).toNat < S16.size a)
theorem k0_idx3_inb : ∀ (i : grid0.Coords) (v27 : IVec S16 32) (k0_hw3 : k0_chk3 i v27), ∀ (k0_h2 : k0_cond2 i = 1#1), ∀ a x, ((![v27] : Fin 1 → IVec S16 32) a x).toNat < S16.size a := fun i v27 k0_hw3 k0_h2 => k0_hw3 k0_h2

def k0_chk4 (i : grid0.Coords) (v32 : IVec S16 32) : Prop :=
  (∀ (k0_h2 : k0_cond2 i = 1#1), ∀ a x, ((![v32] : Fin 1 → IVec S16 32) a x).toNat < S16.size a)
theorem k0_idx4_inb : ∀ (i : grid0.Coords) (v32 : IVec S16 32) (k0_hw4 : k0_chk4 i v32), ∀ (k0_h2 : k0_cond2 i = 1#1), ∀ a x, ((![v32] : Fin 1 → IVec S16 32) a x).toNat < S16.size a := fun i v32 k0_hw4 k0_h2 => k0_hw4 k0_h2

def k0_chk5 (i : grid0.Coords) (v43 : IVec S16 32) : Prop :=
  (∀ (k0_h2 : k0_cond2 i = 1#1), ∀ a x, ((![v43] : Fin 1 → IVec S16 32) a x).toNat < S16.size a)
theorem k0_idx5_inb : ∀ (i : grid0.Coords) (v43 : IVec S16 32) (k0_hw5 : k0_chk5 i v43), ∀ (k0_h2 : k0_cond2 i = 1#1), ∀ a x, ((![v43] : Fin 1 → IVec S16 32) a x).toNat < S16.size a := fun i v43 k0_hw5 k0_h2 => k0_hw5 k0_h2

def k0_chk6 (i : grid0.Coords) (v48 : IVec S16 32) : Prop :=
  (∀ (k0_h2 : k0_cond2 i = 1#1), ∀ a x, ((![v48] : Fin 1 → IVec S16 32) a x).toNat < S16.size a)
theorem k0_idx6_inb : ∀ (i : grid0.Coords) (v48 : IVec S16 32) (k0_hw6 : k0_chk6 i v48), ∀ (k0_h2 : k0_cond2 i = 1#1), ∀ a x, ((![v48] : Fin 1 → IVec S16 32) a x).toNat < S16.size a := fun i v48 k0_hw6 k0_h2 => k0_hw6 k0_h2

def k0_chk7 (i : grid0.Coords) (v53 : IVec S16 32) : Prop :=
  (∀ (k0_h2 : k0_cond2 i = 1#1), ∀ a x, ((![v53] : Fin 1 → IVec S16 32) a x).toNat < S16.size a)
theorem k0_idx7_inb : ∀ (i : grid0.Coords) (v53 : IVec S16 32) (k0_hw7 : k0_chk7 i v53), ∀ (k0_h2 : k0_cond2 i = 1#1), ∀ a x, ((![v53] : Fin 1 → IVec S16 32) a x).toNat < S16.size a := fun i v53 k0_hw7 k0_h2 => k0_hw7 k0_h2

def k0_chk8 (i : grid0.Coords) (v58 : IVec S16 32) : Prop :=
  (∀ (k0_h2 : k0_cond2 i = 1#1), ∀ a x, ((![v58] : Fin 1 → IVec S16 32) a x).toNat < S16.size a)
theorem k0_idx8_inb : ∀ (i : grid0.Coords) (v58 : IVec S16 32) (k0_hw8 : k0_chk8 i v58), ∀ (k0_h2 : k0_cond2 i = 1#1), ∀ a x, ((![v58] : Fin 1 → IVec S16 32) a x).toNat < S16.size a := fun i v58 k0_hw8 k0_h2 => k0_hw8 k0_h2

def k0_chk9 (i : grid0.Coords) (v69 : IVec S16 32) : Prop :=
  (∀ (k0_h2 : k0_cond2 i = 1#1), ∀ a x, ((![v69] : Fin 1 → IVec S16 32) a x).toNat < S16.size a)
theorem k0_idx9_inb : ∀ (i : grid0.Coords) (v69 : IVec S16 32) (k0_hw9 : k0_chk9 i v69), ∀ (k0_h2 : k0_cond2 i = 1#1), ∀ a x, ((![v69] : Fin 1 → IVec S16 32) a x).toNat < S16.size a := fun i v69 k0_hw9 k0_h2 => k0_hw9 k0_h2

def k0_chk10 (i : grid0.Coords) (v74 : IVec S16 32) : Prop :=
  (∀ (k0_h2 : k0_cond2 i = 1#1), ∀ a x, ((![v74] : Fin 1 → IVec S16 32) a x).toNat < S16.size a)
theorem k0_idx10_inb : ∀ (i : grid0.Coords) (v74 : IVec S16 32) (k0_hw10 : k0_chk10 i v74), ∀ (k0_h2 : k0_cond2 i = 1#1), ∀ a x, ((![v74] : Fin 1 → IVec S16 32) a x).toNat < S16.size a := fun i v74 k0_hw10 k0_h2 => k0_hw10 k0_h2

def k0_chk11 (i : grid0.Coords) (v79 : IVec S16 32) : Prop :=
  (∀ (k0_h2 : k0_cond2 i = 1#1), ∀ a x, ((![v79] : Fin 1 → IVec S16 32) a x).toNat < S16.size a)
theorem k0_idx11_inb : ∀ (i : grid0.Coords) (v79 : IVec S16 32) (k0_hw11 : k0_chk11 i v79), ∀ (k0_h2 : k0_cond2 i = 1#1), ∀ a x, ((![v79] : Fin 1 → IVec S16 32) a x).toNat < S16.size a := fun i v79 k0_hw11 k0_h2 => k0_hw11 k0_h2

def k0_chk12 (i : grid0.Coords) (v84 : IVec S16 32) : Prop :=
  (∀ (k0_h2 : k0_cond2 i = 1#1), ∀ a x, ((![v84] : Fin 1 → IVec S16 32) a x).toNat < S16.size a)
theorem k0_idx12_inb : ∀ (i : grid0.Coords) (v84 : IVec S16 32) (k0_hw12 : k0_chk12 i v84), ∀ (k0_h2 : k0_cond2 i = 1#1), ∀ a x, ((![v84] : Fin 1 → IVec S16 32) a x).toNat < S16.size a := fun i v84 k0_hw12 k0_h2 => k0_hw12 k0_h2

def k0_chk13 (i : grid0.Coords) (v95 : IVec S16 32) : Prop :=
  (∀ (k0_h2 : k0_cond2 i = 1#1), ∀ a x, ((![v95] : Fin 1 → IVec S16 32) a x).toNat < S16.size a)
theorem k0_idx13_inb : ∀ (i : grid0.Coords) (v95 : IVec S16 32) (k0_hw13 : k0_chk13 i v95), ∀ (k0_h2 : k0_cond2 i = 1#1), ∀ a x, ((![v95] : Fin 1 → IVec S16 32) a x).toNat < S16.size a := fun i v95 k0_hw13 k0_h2 => k0_hw13 k0_h2

def k0_chk14 (i : grid0.Coords) (v100 : IVec S16 32) : Prop :=
  (∀ (k0_h2 : k0_cond2 i = 1#1), ∀ a x, ((![v100] : Fin 1 → IVec S16 32) a x).toNat < S16.size a)
theorem k0_idx14_inb : ∀ (i : grid0.Coords) (v100 : IVec S16 32) (k0_hw14 : k0_chk14 i v100), ∀ (k0_h2 : k0_cond2 i = 1#1), ∀ a x, ((![v100] : Fin 1 → IVec S16 32) a x).toNat < S16.size a := fun i v100 k0_hw14 k0_h2 => k0_hw14 k0_h2

def k0_chk15 (i : grid0.Coords) (v105 : IVec S16 32) : Prop :=
  (∀ (k0_h2 : k0_cond2 i = 1#1), ∀ a x, ((![v105] : Fin 1 → IVec S16 32) a x).toNat < S16.size a)
theorem k0_idx15_inb : ∀ (i : grid0.Coords) (v105 : IVec S16 32) (k0_hw15 : k0_chk15 i v105), ∀ (k0_h2 : k0_cond2 i = 1#1), ∀ a x, ((![v105] : Fin 1 → IVec S16 32) a x).toNat < S16.size a := fun i v105 k0_hw15 k0_h2 => k0_hw15 k0_h2

def k0_chk16 (i : grid0.Coords) (v110 : IVec S16 32) : Prop :=
  (∀ (k0_h2 : k0_cond2 i = 1#1), ∀ a x, ((![v110] : Fin 1 → IVec S16 32) a x).toNat < S16.size a)
theorem k0_idx16_inb : ∀ (i : grid0.Coords) (v110 : IVec S16 32) (k0_hw16 : k0_chk16 i v110), ∀ (k0_h2 : k0_cond2 i = 1#1), ∀ a x, ((![v110] : Fin 1 → IVec S16 32) a x).toNat < S16.size a := fun i v110 k0_hw16 k0_h2 => k0_hw16 k0_h2

def k0_chk17 (i : grid0.Coords) (v121 : IVec S16 32) : Prop :=
  (∀ (k0_h2 : k0_cond2 i = 1#1), ∀ a x, ((![v121] : Fin 1 → IVec S16 32) a x).toNat < S16.size a)
theorem k0_idx17_inb : ∀ (i : grid0.Coords) (v121 : IVec S16 32) (k0_hw17 : k0_chk17 i v121), ∀ (k0_h2 : k0_cond2 i = 1#1), ∀ a x, ((![v121] : Fin 1 → IVec S16 32) a x).toNat < S16.size a := fun i v121 k0_hw17 k0_h2 => k0_hw17 k0_h2

def k0_chk18 (i : grid0.Coords) (v126 : IVec S16 32) : Prop :=
  (∀ (k0_h2 : k0_cond2 i = 1#1), ∀ a x, ((![v126] : Fin 1 → IVec S16 32) a x).toNat < S16.size a)
theorem k0_idx18_inb : ∀ (i : grid0.Coords) (v126 : IVec S16 32) (k0_hw18 : k0_chk18 i v126), ∀ (k0_h2 : k0_cond2 i = 1#1), ∀ a x, ((![v126] : Fin 1 → IVec S16 32) a x).toNat < S16.size a := fun i v126 k0_hw18 k0_h2 => k0_hw18 k0_h2

def k0_chk19 (i : grid0.Coords) (v131 : IVec S16 32) : Prop :=
  (∀ (k0_h2 : k0_cond2 i = 1#1), ∀ a x, ((![v131] : Fin 1 → IVec S16 32) a x).toNat < S16.size a)
theorem k0_idx19_inb : ∀ (i : grid0.Coords) (v131 : IVec S16 32) (k0_hw19 : k0_chk19 i v131), ∀ (k0_h2 : k0_cond2 i = 1#1), ∀ a x, ((![v131] : Fin 1 → IVec S16 32) a x).toNat < S16.size a := fun i v131 k0_hw19 k0_h2 => k0_hw19 k0_h2

def k0_chk20 (i : grid0.Coords) (v136 : IVec S16 32) : Prop :=
  (∀ (k0_h2 : k0_cond2 i = 1#1), ∀ a x, ((![v136] : Fin 1 → IVec S16 32) a x).toNat < S16.size a)
theorem k0_idx20_inb : ∀ (i : grid0.Coords) (v136 : IVec S16 32) (k0_hw20 : k0_chk20 i v136), ∀ (k0_h2 : k0_cond2 i = 1#1), ∀ a x, ((![v136] : Fin 1 → IVec S16 32) a x).toNat < S16.size a := fun i v136 k0_hw20 k0_h2 => k0_hw20 k0_h2

def k0_chk21 (i : grid0.Coords) (v147 : IVec S16 32) : Prop :=
  (∀ (k0_h2 : k0_cond2 i = 1#1), ∀ a x, ((![v147] : Fin 1 → IVec S16 32) a x).toNat < S16.size a)
theorem k0_idx21_inb : ∀ (i : grid0.Coords) (v147 : IVec S16 32) (k0_hw21 : k0_chk21 i v147), ∀ (k0_h2 : k0_cond2 i = 1#1), ∀ a x, ((![v147] : Fin 1 → IVec S16 32) a x).toNat < S16.size a := fun i v147 k0_hw21 k0_h2 => k0_hw21 k0_h2

def k0_chk22 (i : grid0.Coords) (v152 : IVec S16 32) : Prop :=
  (∀ (k0_h2 : k0_cond2 i = 1#1), ∀ a x, ((![v152] : Fin 1 → IVec S16 32) a x).toNat < S16.size a)
theorem k0_idx22_inb : ∀ (i : grid0.Coords) (v152 : IVec S16 32) (k0_hw22 : k0_chk22 i v152), ∀ (k0_h2 : k0_cond2 i = 1#1), ∀ a x, ((![v152] : Fin 1 → IVec S16 32) a x).toNat < S16.size a := fun i v152 k0_hw22 k0_h2 => k0_hw22 k0_h2

def k0_chk23 (i : grid0.Coords) (v157 : IVec S16 32) : Prop :=
  (∀ (k0_h2 : k0_cond2 i = 1#1), ∀ a x, ((![v157] : Fin 1 → IVec S16 32) a x).toNat < S16.size a)
theorem k0_idx23_inb : ∀ (i : grid0.Coords) (v157 : IVec S16 32) (k0_hw23 : k0_chk23 i v157), ∀ (k0_h2 : k0_cond2 i = 1#1), ∀ a x, ((![v157] : Fin 1 → IVec S16 32) a x).toNat < S16.size a := fun i v157 k0_hw23 k0_h2 => k0_hw23 k0_h2

def k0_chk24 (i : grid0.Coords) (v162 : IVec S16 32) : Prop :=
  (∀ (k0_h2 : k0_cond2 i = 1#1), ∀ a x, ((![v162] : Fin 1 → IVec S16 32) a x).toNat < S16.size a)
theorem k0_idx24_inb : ∀ (i : grid0.Coords) (v162 : IVec S16 32) (k0_hw24 : k0_chk24 i v162), ∀ (k0_h2 : k0_cond2 i = 1#1), ∀ a x, ((![v162] : Fin 1 → IVec S16 32) a x).toNat < S16.size a := fun i v162 k0_hw24 k0_h2 => k0_hw24 k0_h2

def k0_chk25 (i : grid0.Coords) (v173 : IVec S16 32) : Prop :=
  (∀ (k0_h2 : k0_cond2 i = 1#1), ∀ a x, ((![v173] : Fin 1 → IVec S16 32) a x).toNat < S16.size a)
theorem k0_idx25_inb : ∀ (i : grid0.Coords) (v173 : IVec S16 32) (k0_hw25 : k0_chk25 i v173), ∀ (k0_h2 : k0_cond2 i = 1#1), ∀ a x, ((![v173] : Fin 1 → IVec S16 32) a x).toNat < S16.size a := fun i v173 k0_hw25 k0_h2 => k0_hw25 k0_h2

def k0_chk26 (i : grid0.Coords) (v178 : IVec S16 32) : Prop :=
  (∀ (k0_h2 : k0_cond2 i = 1#1), ∀ a x, ((![v178] : Fin 1 → IVec S16 32) a x).toNat < S16.size a)
theorem k0_idx26_inb : ∀ (i : grid0.Coords) (v178 : IVec S16 32) (k0_hw26 : k0_chk26 i v178), ∀ (k0_h2 : k0_cond2 i = 1#1), ∀ a x, ((![v178] : Fin 1 → IVec S16 32) a x).toNat < S16.size a := fun i v178 k0_hw26 k0_h2 => k0_hw26 k0_h2

def k0_chk27 (i : grid0.Coords) (v183 : IVec S16 32) : Prop :=
  (∀ (k0_h2 : k0_cond2 i = 1#1), ∀ a x, ((![v183] : Fin 1 → IVec S16 32) a x).toNat < S16.size a)
theorem k0_idx27_inb : ∀ (i : grid0.Coords) (v183 : IVec S16 32) (k0_hw27 : k0_chk27 i v183), ∀ (k0_h2 : k0_cond2 i = 1#1), ∀ a x, ((![v183] : Fin 1 → IVec S16 32) a x).toNat < S16.size a := fun i v183 k0_hw27 k0_h2 => k0_hw27 k0_h2

def k0_chk28 (i : grid0.Coords) (v188 : IVec S16 32) : Prop :=
  (∀ (k0_h2 : k0_cond2 i = 1#1), ∀ a x, ((![v188] : Fin 1 → IVec S16 32) a x).toNat < S16.size a)
theorem k0_idx28_inb : ∀ (i : grid0.Coords) (v188 : IVec S16 32) (k0_hw28 : k0_chk28 i v188), ∀ (k0_h2 : k0_cond2 i = 1#1), ∀ a x, ((![v188] : Fin 1 → IVec S16 32) a x).toNat < S16.size a := fun i v188 k0_hw28 k0_h2 => k0_hw28 k0_h2

def k0_chk29 (i : grid0.Coords) (v199 : IVec S16 32) : Prop :=
  (∀ (k0_h2 : k0_cond2 i = 1#1), ∀ a x, ((![v199] : Fin 1 → IVec S16 32) a x).toNat < S16.size a)
theorem k0_idx29_inb : ∀ (i : grid0.Coords) (v199 : IVec S16 32) (k0_hw29 : k0_chk29 i v199), ∀ (k0_h2 : k0_cond2 i = 1#1), ∀ a x, ((![v199] : Fin 1 → IVec S16 32) a x).toNat < S16.size a := fun i v199 k0_hw29 k0_h2 => k0_hw29 k0_h2

def k0_chk30 (i : grid0.Coords) (v204 : IVec S16 32) : Prop :=
  (∀ (k0_h2 : k0_cond2 i = 1#1), ∀ a x, ((![v204] : Fin 1 → IVec S16 32) a x).toNat < S16.size a)
theorem k0_idx30_inb : ∀ (i : grid0.Coords) (v204 : IVec S16 32) (k0_hw30 : k0_chk30 i v204), ∀ (k0_h2 : k0_cond2 i = 1#1), ∀ a x, ((![v204] : Fin 1 → IVec S16 32) a x).toNat < S16.size a := fun i v204 k0_hw30 k0_h2 => k0_hw30 k0_h2

def k0_chk31 (i : grid0.Coords) (v209 : IVec S16 32) : Prop :=
  (∀ (k0_h2 : k0_cond2 i = 1#1), ∀ a x, ((![v209] : Fin 1 → IVec S16 32) a x).toNat < S16.size a)
theorem k0_idx31_inb : ∀ (i : grid0.Coords) (v209 : IVec S16 32) (k0_hw31 : k0_chk31 i v209), ∀ (k0_h2 : k0_cond2 i = 1#1), ∀ a x, ((![v209] : Fin 1 → IVec S16 32) a x).toNat < S16.size a := fun i v209 k0_hw31 k0_h2 => k0_hw31 k0_h2

def k0_chk32 (i : grid0.Coords) (v214 : IVec S16 32) : Prop :=
  (∀ (k0_h2 : k0_cond2 i = 1#1), ∀ a x, ((![v214] : Fin 1 → IVec S16 32) a x).toNat < S16.size a)
theorem k0_idx32_inb : ∀ (i : grid0.Coords) (v214 : IVec S16 32) (k0_hw32 : k0_chk32 i v214), ∀ (k0_h2 : k0_cond2 i = 1#1), ∀ a x, ((![v214] : Fin 1 → IVec S16 32) a x).toNat < S16.size a := fun i v214 k0_hw32 k0_h2 => k0_hw32 k0_h2

def k0_chk33 (i : grid0.Coords) (v225 : IVec S16 32) : Prop :=
  (∀ (k0_h2 : k0_cond2 i = 1#1), ∀ a x, ((![v225] : Fin 1 → IVec S16 32) a x).toNat < S16.size a)
theorem k0_idx33_inb : ∀ (i : grid0.Coords) (v225 : IVec S16 32) (k0_hw33 : k0_chk33 i v225), ∀ (k0_h2 : k0_cond2 i = 1#1), ∀ a x, ((![v225] : Fin 1 → IVec S16 32) a x).toNat < S16.size a := fun i v225 k0_hw33 k0_h2 => k0_hw33 k0_h2

def k0_chk34 (i : grid0.Coords) (v230 : IVec S16 32) : Prop :=
  (∀ (k0_h2 : k0_cond2 i = 1#1), ∀ a x, ((![v230] : Fin 1 → IVec S16 32) a x).toNat < S16.size a)
theorem k0_idx34_inb : ∀ (i : grid0.Coords) (v230 : IVec S16 32) (k0_hw34 : k0_chk34 i v230), ∀ (k0_h2 : k0_cond2 i = 1#1), ∀ a x, ((![v230] : Fin 1 → IVec S16 32) a x).toNat < S16.size a := fun i v230 k0_hw34 k0_h2 => k0_hw34 k0_h2

def k0_chk35 (i : grid0.Coords) (v235 : IVec S16 32) : Prop :=
  (∀ (k0_h2 : k0_cond2 i = 1#1), ∀ a x, ((![v235] : Fin 1 → IVec S16 32) a x).toNat < S16.size a)
theorem k0_idx35_inb : ∀ (i : grid0.Coords) (v235 : IVec S16 32) (k0_hw35 : k0_chk35 i v235), ∀ (k0_h2 : k0_cond2 i = 1#1), ∀ a x, ((![v235] : Fin 1 → IVec S16 32) a x).toNat < S16.size a := fun i v235 k0_hw35 k0_h2 => k0_hw35 k0_h2

def k0_chk36 (i : grid0.Coords) (v240 : IVec S16 32) : Prop :=
  (∀ (k0_h2 : k0_cond2 i = 1#1), ∀ a x, ((![v240] : Fin 1 → IVec S16 32) a x).toNat < S16.size a)
theorem k0_idx36_inb : ∀ (i : grid0.Coords) (v240 : IVec S16 32) (k0_hw36 : k0_chk36 i v240), ∀ (k0_h2 : k0_cond2 i = 1#1), ∀ a x, ((![v240] : Fin 1 → IVec S16 32) a x).toNat < S16.size a := fun i v240 k0_hw36 k0_h2 => k0_hw36 k0_h2
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_layers" => some ((9⁻¹ : ℝ) : EReal)
  | _ => none
-- ==== ReferenceIdeal.lean ====
abbrev S9x2049x2049 : Shape := ⟨3, ![9, 2049, 2049]⟩
abbrev S1024x2 : Shape := ⟨2, ![1024, 2]⟩
abbrev S512 : Shape := ⟨1, ![512]⟩
abbrev S1024x1 : Shape := ⟨2, ![1024, 1]⟩
abbrev S1024 : Shape := ⟨1, ![1024]⟩
abbrev S_ : Shape := ⟨0, ![]⟩
abbrev S9x1024 : Shape := ⟨2, ![9, 1024]⟩
abbrev S9 : Shape := ⟨1, ![9]⟩
abbrev S512x1 : Shape := ⟨2, ![512, 1]⟩
abbrev S512x2 : Shape := ⟨2, ![512, 2]⟩
abbrev S9x512 : Shape := ⟨2, ![9, 512]⟩
abbrev S1 : Shape := ⟨1, ![1]⟩
abbrev S10 : Shape := ⟨1, ![10]⟩

abbrev nBuf : Space → Nat
  | .hbm => 83
  | .vmem => 0
  | .smem => 0
  | _ => 0

abbrev bufTy : (tb : Table) → Fin (tcTables nBuf tb) → BufTy
  | .hbm, ⟨0, _⟩ => ⟨S9x2049x2049, .f32⟩
  | .hbm, ⟨1, _⟩ => ⟨S1024x2, .i32⟩
  | .hbm, ⟨2, _⟩ => ⟨S512, .i32⟩
  | .hbm, ⟨3, _⟩ => ⟨S512, .i32⟩
  | .hbm, ⟨4, _⟩ => ⟨S1024x1, .i32⟩
  | .hbm, ⟨5, _⟩ => ⟨S1024, .i32⟩
  | .hbm, ⟨6, _⟩ => ⟨S1024x1, .i32⟩
  | .hbm, ⟨7, _⟩ => ⟨S1024, .i32⟩
  | .hbm, ⟨8, _⟩ => ⟨S_, .i32⟩
  | .hbm, ⟨9, _⟩ => ⟨S1024, .i32⟩
  | .hbm, ⟨10, _⟩ => ⟨S1024, .i1⟩
  | .hbm, ⟨11, _⟩ => ⟨S_, .i32⟩
  | .hbm, ⟨12, _⟩ => ⟨S1024, .i32⟩
  | .hbm, ⟨13, _⟩ => ⟨S1024, .i32⟩
  | .hbm, ⟨14, _⟩ => ⟨S1024, .i32⟩
  | .hbm, ⟨15, _⟩ => ⟨S_, .i32⟩
  | .hbm, ⟨16, _⟩ => ⟨S1024, .i32⟩
  | .hbm, ⟨17, _⟩ => ⟨S1024, .i1⟩
  | .hbm, ⟨18, _⟩ => ⟨S_, .i32⟩
  | .hbm, ⟨19, _⟩ => ⟨S1024, .i32⟩
  | .hbm, ⟨20, _⟩ => ⟨S1024, .i32⟩
  | .hbm, ⟨21, _⟩ => ⟨S1024, .i32⟩
  | .hbm, ⟨22, _⟩ => ⟨S1024x1, .i32⟩
  | .hbm, ⟨23, _⟩ => ⟨S1024x1, .i32⟩
  | .hbm, ⟨24, _⟩ => ⟨S1024x2, .i32⟩
  | .hbm, ⟨25, _⟩ => ⟨S9x1024, .f32⟩
  | .hbm, ⟨26, _⟩ => ⟨S_, .f32⟩
  | .hbm, ⟨27, _⟩ => ⟨S9, .f32⟩
  | .hbm, ⟨28, _⟩ => ⟨S_, .f32⟩
  | .hbm, ⟨29, _⟩ => ⟨S9, .f32⟩
  | .hbm, ⟨30, _⟩ => ⟨S9, .f32⟩
  | .hbm, ⟨31, _⟩ => ⟨S9, .f32⟩
  | .hbm, ⟨32, _⟩ => ⟨S_, .i32⟩
  | .hbm, ⟨33, _⟩ => ⟨S512, .i32⟩
  | .hbm, ⟨34, _⟩ => ⟨S512, .i1⟩
  | .hbm, ⟨35, _⟩ => ⟨S_, .i32⟩
  | .hbm, ⟨36, _⟩ => ⟨S512, .i32⟩
  | .hbm, ⟨37, _⟩ => ⟨S512, .i32⟩
  | .hbm, ⟨38, _⟩ => ⟨S512, .i32⟩
  | .hbm, ⟨39, _⟩ => ⟨S_, .i32⟩
  | .hbm, ⟨40, _⟩ => ⟨S512, .i32⟩
  | .hbm, ⟨41, _⟩ => ⟨S512, .i32⟩
  | .hbm, ⟨42, _⟩ => ⟨S512x1, .i32⟩
  | .hbm, ⟨43, _⟩ => ⟨S512x1, .i32⟩
  | .hbm, ⟨44, _⟩ => ⟨S512x2, .i32⟩
  | .hbm, ⟨45, _⟩ => ⟨S9x512, .f32⟩
  | .hbm, ⟨46, _⟩ => ⟨S_, .f32⟩
  | .hbm, ⟨47, _⟩ => ⟨S9, .f32⟩
  | .hbm, ⟨48, _⟩ => ⟨S_, .f32⟩
  | .hbm, ⟨49, _⟩ => ⟨S9, .f32⟩
  | .hbm, ⟨50, _⟩ => ⟨S9, .f32⟩
  | .hbm, ⟨51, _⟩ => ⟨S9, .f32⟩
  | .hbm, ⟨52, _⟩ => ⟨S_, .i32⟩
  | .hbm, ⟨53, _⟩ => ⟨S512, .i32⟩
  | .hbm, ⟨54, _⟩ => ⟨S512, .i1⟩
  | .hbm, ⟨55, _⟩ => ⟨S_, .i32⟩
  | .hbm, ⟨56, _⟩ => ⟨S512, .i32⟩
  | .hbm, ⟨57, _⟩ => ⟨S512, .i32⟩
  | .hbm, ⟨58, _⟩ => ⟨S512, .i32⟩
  | .hbm, ⟨59, _⟩ => ⟨S_, .i32⟩
  | .hbm, ⟨60, _⟩ => ⟨S512, .i32⟩
  | .hbm, ⟨61, _⟩ => ⟨S512, .i32⟩
  | .hbm, ⟨62, _⟩ => ⟨S512x1, .i32⟩
  | .hbm, ⟨63, _⟩ => ⟨S512x1, .i32⟩
  | .hbm, ⟨64, _⟩ => ⟨S512x2, .i32⟩
  | .hbm, ⟨65, _⟩ => ⟨S9x512, .f32⟩
  | .hbm, ⟨66, _⟩ => ⟨S_, .f32⟩
  | .hbm, ⟨67, _⟩ => ⟨S9, .f32⟩
  | .hbm, ⟨68, _⟩ => ⟨S_, .f32⟩
  | .hbm, ⟨69, _⟩ => ⟨S9, .f32⟩
  | .hbm, ⟨70, _⟩ => ⟨S9, .f32⟩
  | .hbm, ⟨71, _⟩ => ⟨S9, .f32⟩
  | .hbm, ⟨72, _⟩ => ⟨S9, .f32⟩
  | .hbm, ⟨73, _⟩ => ⟨S_, .f32⟩
  | .hbm, ⟨74, _⟩ => ⟨S9, .f32⟩
  | .hbm, ⟨75, _⟩ => ⟨S9, .f32⟩
  | .hbm, ⟨76, _⟩ => ⟨S9, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S1, .f32⟩
  | .hbm, ⟨82, _⟩ => ⟨S10, .f32⟩
  | _, _ => ⟨S9x2049x2049, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_c_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_9 : Ref sig .tc := ⟨.hbm, 52, rfl⟩
abbrev main_v37 : Ref sig .tc := ⟨.hbm, 53, rfl⟩
abbrev main_v38 : Ref sig .tc := ⟨.hbm, 54, rfl⟩
abbrev main_c_10 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_11 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_12 : Ref sig .tc := ⟨.hbm, 66, rfl⟩
abbrev main_v48 : Ref sig .tc := ⟨.hbm, 67, rfl⟩
abbrev main_cst_13 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_14 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_15 : Ref sig .tc := ⟨.hbm, 77, rfl⟩
abbrev main_v56 : Ref sig .tc := ⟨.hbm, 78, rfl⟩
abbrev main_cst_16 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩

abbrev nD : Nat := 1
abbrev τ : Topo := Topo.v7x

variable {F : FTy → Type} [FloatOps F]
-- ==== Proof.Shape.lean ====
module

public import proofs.«01_k».proof.Defs
public import Idealize.ShloMosaic.Lib.SparseCore.Ops
public import Idealize.ShloMosaic.Lib.Tactic
public import proofs.«01_k».proof.Proof.Gen.Kernel
public import proofs.«01_k».proof.Proof.Body

@[expose] public section

noncomputable section

namespace Cert.Proof.K

open Cert.Kernel Cert.Kernel.Gen

open Idealize.ShloMosaic Idealize.SL.Sem

variable {F : FTy → Type} [FloatOps F]

set_option maxRecDepth 1000000
set_option maxHeartbeats 0
/-- The printed body is the tile's program. -/
theorem body_eq (i : grid0.Coords) (flat : Memref sig .scVector .hbm S37785609 .f32) (hflat : flat.IsWhole) (base : Memref sig .scVector .hbm S2048 .i32) (hbase : base.IsWhole)
    (out : Memref sig .scVector .hbm S16 .f32) (hout : out.IsWhole)
    (ms : Fin 16 → Memref sig .scVector .vmem S128 .i32) (hms : ∀ k, (ms k).IsWhole) (val : Memref sig .scVector .vmem S2048 .f32) (hval : val.IsWhole)
    (vec : Memref sig .scVector .vmem S16 .f32) (hvec : vec.IsWhole) (part : Memref sig .scVector .vmem S16x16 .f32) (hpart : part.IsWhole)
    (stage : Memref sig .scVector .shared S16x16 .f32) (hstage : stage.IsWhole) (s : DmaSems sig S_) (ss : Fin 16 → DmaSems sig S_)
    (s16 s17 s18 : DmaSems sig S_) :
    cc0__sc_loss_body (F := F) i flat hflat base hbase out hout (ms 0) (hms 0) (ms 1) (hms 1) (ms 2) (hms 2) (ms 3) (hms 3) (ms 4) (hms 4) (ms 5) (hms 5) (ms 6) (hms 6) (ms 7) (hms 7) (ms 8) (hms 8) (ms 9) (hms 9) (ms 10) (hms 10) (ms 11) (hms 11) (ms 12) (hms 12) (ms 13) (hms 13) (ms 14) (hms 14) (ms 15) (hms 15) val hval vec hvec part hpart stage hstage s (ss 0) (ss 1) (ss 2) (ss 3) (ss 4) (ss 5) (ss 6) (ss 7) (ss 8) (ss 9) (ss 10) (ss 11) (ss 12) (ss 13) (ss 14) (ss 15) s16 s17 s18 =
      tileProg i flat base out hout ms hms val vec hvec part hpart stage hstage s ss s16 s17 s18 := rfl

end Cert.Proof.K
end
-- ==== Proof.Words.lean ====
/- The words the host builds of the index arrays: each the place, in one layer's flat scores, of the score its indices
   name; below one layer's size whenever the indices are in range. Shared by the two programs. -/
module

public import proofs.«01_k».proof.Defs
public import Idealize.ShloMosaic.Lib.Pipeline.Value
public import Idealize.ShloMosaic.Lib.ValueIdxCore
public import Idealize.ShloMosaic.Lib.ReduceAll
public import Idealize.ShloMosaic.Lib.Affine

@[expose] public section

noncomputable section

namespace Cert.Proof.Index

open Idealize.ShloMosaic Idealize.ShloMosaic.ValueIdx

/-! ## The words -/

abbrev Pairs : Shape := ⟨2, ![1024, 2]⟩
abbrev Column : Shape := ⟨2, ![1024, 1]⟩
abbrev L1024 : Shape := ⟨1, ![1024]⟩
abbrev L512 : Shape := ⟨1, ![512]⟩
abbrev L2048 : Shape := ⟨1, ![2048]⟩
abbrev One : Shape := ⟨0, ![]⟩

variable (a1 : IVec Pairs 32) (a2 a3 : IVec L512 32)

theorem col0 : Pairs.Slices ![0, 0] Column := by decide
theorem col1 : Pairs.Slices ![0, 1] Column := by decide
theorem colFlat : Column.ShapeCasts L1024 := by decide
theorem all1024 : One.BroadcastsInDim L1024 ![] := by decide
theorem all512 : One.BroadcastsInDim L512 ![] := by decide
theorem joined : Shape.Concatenates [L1024, L512, L512] L2048 0 := by decide

def matched : IVec L1024 32 :=
  addi (muli (shapeCast L1024 (extractStridedSlice Column ![0, 0] a1 col0) colFlat) (broadcastInDim L1024 ![] all1024 (constantI One 32 2049#32)))
    (shapeCast L1024 (extractStridedSlice Column ![0, 1] a1 col1) colFlat)
def rowless : IVec L512 32 :=
  addi (muli a2 (broadcastInDim L512 ![] all512 (constantI One 32 2049#32))) (broadcastInDim L512 ![] all512 (constantI One 32 2048#32))
def colless : IVec L512 32 := addi (broadcastInDim L512 ![] all512 (constantI One 32 4196352#32)) a3

abbrev pieces : List ((s : Shape) × (s.Idx → BitVec 32)) := [⟨L1024, matched a1⟩, ⟨L512, rowless a2⟩, ⟨L512, colless a3⟩]

/-- The words: the matched pairs', the unmatched rows', the unmatched columns'. -/
def wordsOf : IVec L2048 32 := concatenate L2048 0 (pieces a1 a2 a3) joined

theorem column_apply (a : Fin 2) (off : Fin 2 → ℕ) (h : Pairs.Slices off Column) (h0 : off 0 = 0) (h1 : off 1 = a.val) (t : Fin 1024) :
    shapeCast L1024 (extractStridedSlice Column off a1 h) colFlat (ix1 t) = a1 (ix2 t a) := by
  rw [shapeCast_apply _ _ _ (ix2 t (0 : Fin 1)) (by simp [Shape.rowMajor_val_one, Shape.rowMajor_val_two])]
  exact extractStridedSlice_apply off a1 h (ix2 t (0 : Fin 1)) (ix2 t a) fun b => by
    match b with
    | ⟨0, _⟩ => show t.val = off 0 + t.val; omega
    | ⟨1, _⟩ => show a.val = off 1 + 0; omega

theorem matched_apply (t : Fin 1024) : matched a1 (ix1 t) = a1 (ix2 t 0) * 2049#32 + a1 (ix2 t 1) := by
  show shapeCast L1024 (extractStridedSlice Column ![0, 0] a1 col0) colFlat (ix1 t) * 2049#32
    + shapeCast L1024 (extractStridedSlice Column ![0, 1] a1 col1) colFlat (ix1 t) = _
  rw [column_apply a1 0 _ col0 rfl rfl t, column_apply a1 1 _ col1 rfl rfl t]

theorem wordsOf_matched (t : Fin 1024) : wordsOf a1 a2 a3 (ix1 ⟨t.val, by omega⟩) = a1 (ix2 t 0) * 2049#32 + a1 (ix2 t 1) := by
  rw [← matched_apply]
  exact concatenate_apply_piece 0 (pieces a1 a2 a3) joined _ 0 (show 0 < 3 by decide) L1024 (matched a1) rfl rfl 0 rfl (ix1 t)
    (fun b hb => absurd (Subsingleton.elim _ _) hb) (Nat.zero_add _)

theorem wordsOf_rowless (t : Fin 512) : wordsOf a1 a2 a3 (ix1 ⟨1024 + t.val, by omega⟩) = a2 (ix1 t) * 2049#32 + 2048#32 :=
  (concatenate_apply_piece 0 (pieces a1 a2 a3) joined _ 1 (show 1 < 3 by decide) L512 (rowless a2) rfl rfl 1024 rfl (ix1 t)
    (fun b hb => absurd (Subsingleton.elim _ _) hb) rfl)

theorem wordsOf_colless (t : Fin 512) : wordsOf a1 a2 a3 (ix1 ⟨1536 + t.val, by omega⟩) = 4196352#32 + a3 (ix1 t) :=
  (concatenate_apply_piece 0 (pieces a1 a2 a3) joined _ 2 (show 2 < 3 by decide) L512 (colless a3) rfl rfl 1536 rfl (ix1 t)
    (fun b hb => absurd (Subsingleton.elim _ _) hb) rfl)

/-! ## In range -/

/-- Every index names a keypoint. -/
structure Bounded : Prop where
  pairs : ∀ i, (a1 i).toNat < 2048
  rows : ∀ i, (a2 i).toNat < 2048
  cols : ∀ i, (a3 i).toNat < 2048

theorem in_range {x : BitVec 32} (h : IntOp.andi (IntOp.cmpi .sge x 0#32) (IntOp.cmpi .slt x 2048#32) = 1#1) : x.toNat < 2048 := by
  obtain ⟨h0, h1⟩ := IntOp.andi_eq_one.1 h
  have h0 := IntOp.cmpi_sge.1 h0
  have h1 := IntOp.cmpi_slt.1 h1
  rw [show (0#32 : BitVec 32).toInt = 0 by decide] at h0
  rw [show (2048#32 : BitVec 32).toInt = 2048 by decide] at h1
  have := BitVec.toInt_eq_toNat_cond x
  split at this <;> omega

variable {a1 a2 a3}

theorem matched_toNat (h : Bounded a1 a2 a3) (t : Fin 1024) :
    (wordsOf a1 a2 a3 (ix1 ⟨t.val, by omega⟩)).toNat = 2049 * (a1 (ix2 t 0)).toNat + (a1 (ix2 t 1)).toNat := by
  have h0 := h.pairs (ix2 t 0)
  have h1 := h.pairs (ix2 t 1)
  rw [wordsOf_matched, BitVec.toNat_add, BitVec.toNat_mul, show (2049#32 : BitVec 32).toNat = 2049 from rfl]
  omega

theorem rowless_toNat (h : Bounded a1 a2 a3) (t : Fin 512) :
    (wordsOf a1 a2 a3 (ix1 ⟨1024 + t.val, by omega⟩)).toNat = 2049 * (a2 (ix1 t)).toNat + 2048 := by
  have h0 := h.rows (ix1 t)
  rw [wordsOf_rowless, BitVec.toNat_add, BitVec.toNat_mul, show (2049#32 : BitVec 32).toNat = 2049 from rfl,
    show (2048#32 : BitVec 32).toNat = 2048 from rfl]
  omega

theorem colless_toNat (h : Bounded a1 a2 a3) (t : Fin 512) :
    (wordsOf a1 a2 a3 (ix1 ⟨1536 + t.val, by omega⟩)).toNat = 2049 * 2048 + (a3 (ix1 t)).toNat := by
  have h0 := h.cols (ix1 t)
  rw [wordsOf_colless, BitVec.toNat_add, show (4196352#32 : BitVec 32).toNat = 4196352 from rfl]
  omega

theorem wordsOf_lt (h : Bounded a1 a2 a3) (i : L2048.Idx) : (wordsOf a1 a2 a3 i).toNat < 4198401 := by
  obtain ⟨t, rfl⟩ : ∃ t, i = ix1 t := ⟨i 0, eq_ix1 i⟩
  obtain ⟨t, ht⟩ := t
  by_cases h1 : t < 1024
  · have e := matched_toNat h ⟨t, h1⟩
    have h0 := h.pairs (ix2 ⟨t, h1⟩ 0)
    have h1 := h.pairs (ix2 ⟨t, h1⟩ 1)
    dsimp only at e
    omega
  by_cases h2 : t < 1536
  · obtain ⟨u, rfl⟩ : ∃ u, t = 1024 + u := ⟨t - 1024, by omega⟩
    have e := rowless_toNat h ⟨u, by omega⟩
    have h0 := h.rows (ix1 ⟨u, by omega⟩)
    dsimp only at e
    omega
  · obtain ⟨u, rfl⟩ : ∃ u, t = 1536 + u := ⟨t - 1536, by omega⟩
    have e := colless_toNat h ⟨u, by omega⟩
    have h0 := h.cols (ix1 ⟨u, by omega⟩)
    dsimp only at e
    omega

/-- A word moved to layer `n` is its place there. -/
theorem moved_toNat {x : BitVec 32} (hx : x.toNat < 4198401) {n : ℕ} (hn : n < 9) :
    (x + Scalar.muli (BitVec.ofNat 32 n) 4198401#32).toNat = x.toNat + n * 4198401 := by
  show (x + BitVec.ofNat 32 n * 4198401#32).toNat = _
  rw [BitVec.toNat_add, BitVec.toNat_mul, BitVec.toNat_ofNat, show (4198401#32 : BitVec 32).toNat = 4198401 from rfl]
  omega

instance : Subsingleton One.Idx := ⟨fun a b => funext fun i => i.elim0⟩

variable {F : FTy → Type} [FloatOps F]

theorem bounded_of_pre [Cert.Pre_indices_in_range.Facts] {a0 : FVec F ⟨3, ![9, 2049, 2049]⟩ .f32}
    (h : Cert.Pre_indices_in_range.fn (F := F) a0 a1 a2 a3 = fun _ => 1#1) : Bounded a1 a2 a3 := by
  have h := congrFun h fun i => i.elim0
  dsimp only [Cert.Pre_indices_in_range.fn, Cert.Pre_indices_in_range.fn_part1] at h
  obtain ⟨h12, h3⟩ := IntOp.andi_eq_one.1 h
  obtain ⟨h1, h2⟩ := IntOp.andi_eq_one.1 h12
  exact ⟨fun i => in_range (Host.reduce_andi_all _ _ _ _ _ h1 i), fun i => in_range (Host.reduce_andi_all _ _ _ _ _ h2 i),
    fun i => in_range (Host.reduce_andi_all _ _ _ _ _ h3 i)⟩

/-- The same of the predicate that asks for finite scores too, and that the scores are finite. -/
theorem bounded_of_finite_pre [Cert.Pre_in_range_and_finite.Facts] {a0 : FVec F ⟨3, ![9, 2049, 2049]⟩ .f32}
    (h : Cert.Pre_in_range_and_finite.fn (F := F) a0 a1 a2 a3 = fun _ => 1#1) :
    Bounded a1 a2 a3 ∧ ∀ i, FloatOps.cmpf (F := F) .olt (Host.absf a0 i) (constant (F := F) One .f32 0x7F800000#32 fun j => j.elim0) = 1#1 := by
  have h := congrFun h fun i => i.elim0
  dsimp only [Cert.Pre_in_range_and_finite.fn, Cert.Pre_in_range_and_finite.fn_part1] at h
  obtain ⟨h123, h4⟩ := IntOp.andi_eq_one.1 h
  obtain ⟨h12, h3⟩ := IntOp.andi_eq_one.1 h123
  obtain ⟨h1, h2⟩ := IntOp.andi_eq_one.1 h12
  exact ⟨⟨fun i => in_range (Host.reduce_andi_all _ _ _ _ _ h1 i), fun i => in_range (Host.reduce_andi_all _ _ _ _ _ h2 i),
    fun i => in_range (Host.reduce_andi_all _ _ _ _ _ h3 i)⟩, fun i => Host.reduce_andi_all _ _ _ _ _ h4 i⟩

end Cert.Proof.Index

end
-- ==== Proof.Ideal.Body.lean ====
module

public import proofs.«01_k».proof.Defs
public import Idealize.ShloMosaic.Lib.SparseCore.Ops
public import Idealize.ShloMosaic.Lib.Tactic
public import proofs.«01_k».proof.Proof.Gen.KernelIdeal

@[expose] public section

noncomputable section

namespace Cert.Proof.KI

open Cert.KernelIdeal Cert.KernelIdeal.Gen

open Idealize.ShloMosaic Idealize.SL.Sem

variable {F : FTy → Type} [FloatOps F] [Named F]

/-! ## Straight-line repetitions -/

/-- Run `f 0`, `f 1`, …, `f (n - 1)` one after another. -/
def each {E : Type → Type} : (n : Nat) → (Fin n → Prog E PUnit) → Prog E PUnit
  | 0, _ => .ret ⟨⟩
  | n + 1, f => f 0 >>= fun _ => each n fun k => f k.succ

/-- Run `f 0`, …, `f (n - 1)`, each on what the one before returned. -/
def thread {E : Type → Type} {α : Type} : (n : Nat) → (Fin n → α → Prog E α) → α → Prog E α
  | 0, _, a => .ret a
  | n + 1, f, a => f 0 a >>= fun b => thread n (fun k => f k.succ) b

/-! ## The tile's program, by its repetitions -/

/-- A program of the tile at grid point `i`. -/
abbrev PT (i : grid0.Coords) (α : Type) :=
  Prog (TpuEff nD τ sig (Elt F) Λ₀ (.scVector ((i 0).castLE hcore0) ((i 1).castLE hsub0))) α

theorem inbWords (j : Fin 8) : ∀ a, (![16 * j.val] : Fin 1 → Nat) a + S16.size a ≤ S128.size a := by
  intro a; fin_cases a; show 16 * j.val + 16 ≤ 128; omega
theorem inbChunk (k : Fin 16) : ∀ a, (![128 * k.val] : Fin 1 → Nat) a + S128.size a ≤ S2048.size a := by
  intro a; fin_cases a; show 128 * k.val + 128 ≤ 2048; omega
theorem inbGroup (g : Fin 128) : ∀ a, (![16 * g.val] : Fin 1 → Nat) a + S16.size a ≤ S2048.size a := by
  intro a; fin_cases a; show 16 * g.val + 16 ≤ 2048; omega
theorem inbRow (l : Fin 9) : ∀ a, (![l.val, 0] : Fin 2 → Nat) a + S1x16.size a ≤ S16x16.size a := by
  intro a; fin_cases a
  · show l.val + 1 ≤ 16; omega
  · show 0 + 16 ≤ 16; omega

/-- Sixteen words of an index list, moved by the layer's offset. -/
def addStep (i : grid0.Coords) (m : Memref sig .scVector .vmem S128 .i32) (off : IVec S16 32) (j : Fin 8) : PT (F := F) i PUnit := do
  let v : Vec F S16 .i32 ← Prog.lift (.load m (Rect.unit (s := S128) ![16 * j.val] S16.size (inbWords j)).toLoadRect (View.loadsAt_vmem h_S16))
  let _ : Vec F S16 .i32 ← Prog.lift (.load m (Rect.unit (s := S128) ![16 * j.val] S16.size (inbWords j)).toLoadRect (View.loadsAt_vmem h_S16))
  Prog.lift (.store m (Rect.unit (s := S128) ![16 * j.val] S16.size (inbWords j)) (addi v off) Finset.univ (View.stores_vmem_bits_univ h_S16 rfl) (.inl rfl))

/-- The list of chunk `k`: copied from the table, every word moved by the layer's offset. -/
def fetch (i : grid0.Coords) (base : Memref sig .scVector .hbm S2048 .i32) (m : Memref sig .scVector .vmem S128 .i32) (hm : m.IsWhole)
    (s : DmaSems sig S_) (off : IVec S16 32) (k : Fin 16) : PT (F := F) i PUnit := do
  Prog.lift (.enqueueDma (base.slice (Rect.unit (s := S2048) ![128 * k.val] S128.size (inbChunk k)) (fun _ => rfl)) (.here m) (.dma s.sem) (View.wordExact_bits rfl) hm.wordExact ⟨Or.inl rfl, trivial⟩)
  Prog.lift (.waitDma2 s.sem (base.slice (Rect.unit (s := S2048) ![128 * k.val] S128.size (inbChunk k)) (fun _ => rfl)) m (View.wordExact_bits rfl) hm.wordExact)
  each 8 fun j => addStep i m off j

/-- The gather of chunk `k`. -/
def gatherChunk (i : grid0.Coords) (flat : Memref sig .scVector .hbm S37785609 .f32) (m : Memref sig .scVector .vmem S128 .i32)
    (val : Memref sig .scVector .vmem S2048 .f32) (s : DmaSems sig S_) (k : Fin 16) : PT (F := F) i PUnit :=
  SparseCore.enqueueIndirectGather rfl (flat.slice (Rect.unit (s := S37785609) ![0] S37785609.size inb_S37785609_S37785609_0) (fun _ => rfl))
    (val.slice (Rect.unit (s := S2048) ![128 * k.val] S128.size (inbChunk k)) (fun _ => rfl)) gathers_S37785609_S128 m rfl s.sem (View.wordExact_bits rfl) rfl (Or.inl rfl)

/-- The wait for the gather of chunk `k`. -/
def waitChunk (i : grid0.Coords) (flat : Memref sig .scVector .hbm S37785609 .f32)
    (val : Memref sig .scVector .vmem S2048 .f32) (s : DmaSems sig S_) (k : Fin 16) : PT (F := F) i PUnit :=
  SparseCore.waitIndirectGather s.sem (flat.slice (Rect.unit (s := S37785609) ![0] S37785609.size inb_S37785609_S37785609_0) (fun _ => rfl))
    (val.slice (Rect.unit (s := S2048) ![128 * k.val] S128.size (inbChunk k)) (fun _ => rfl)) (View.wordExact_bits rfl) (View.wordExact_bits rfl)

/-- The weight of every gathered score, as a vector: `-1/1024`. -/
def weights : FVec F S16 .f32 := broadcast S16 (Scalar.ofBits .f32 0xBA800000#32)
/-- Sixteen zeros. -/
def zeros : FVec F S16 .f32 := broadcast S16 (Scalar.ofBits .f32 0x00000000#32)
/-- The lanes' numbers. -/
def lanes : IVec S16 32 := iota .scVector S16 32 [0] iota_S16_d0_w32_scVector
/-- The reciprocal of the number of layers, as the program names it. -/
def invLayers : F .f32 := Named.named κ "inv_layers" 0x3DE38E39#32
/-- The layer's offset into the flat scores, on every lane. -/
def layerOff (s : BitVec 32) : IVec S16 32 := broadcast S16 (Scalar.muli s 4198401#32)

/-- One group of sixteen gathered scores into the running sum. -/
def sumStep (i : grid0.Coords) (val : Memref sig .scVector .vmem S2048 .f32) (g : Fin 128) (acc : FVec F S16 .f32) : PT (F := F) i (FVec F S16 .f32) := do
  let v : Vec F S16 .f32 ← Prog.lift (.load val (Rect.unit (s := S2048) ![16 * g.val] S16.size (inbGroup g)).toLoadRect (View.loadsAt_vmem h_S16))
  pure (addf acc (mulf v weights))

/-- A tile's sixteen partial sums: the lists fetched, the gathers issued and waited for, the groups summed, the sums left
    in the tile's vector. -/
def partials (i : grid0.Coords) (flat : Memref sig .scVector .hbm S37785609 .f32) (base : Memref sig .scVector .hbm S2048 .i32)
    (ms : Fin 16 → Memref sig .scVector .vmem S128 .i32) (hms : ∀ k, (ms k).IsWhole) (val : Memref sig .scVector .vmem S2048 .f32)
    (vec : Memref sig .scVector .vmem S16 .f32) (s : DmaSems sig S_) (ss : Fin 16 → DmaSems sig S_) : PT (F := F) i PUnit := do
  each 16 fun k => fetch i base (ms k) (hms k) (ss k) (layerOff (BitVec.ofNat 32 (i 1).val)) k
  each 16 fun k => gatherChunk i flat (ms k) val s k
  each 16 fun k => waitChunk i flat val s k
  let acc ← thread 128 (fun g acc => sumStep i val g acc) zeros
  let _ : Vec F S16 .f32 ← Prog.lift (.load vec (Rect.unit (s := S16) ![0] S16.size inb_S16_S16_0).toLoadRect (View.loadsAt_vmem h_S16))
  Prog.lift (.store vec (Rect.unit (s := S16) ![0] S16.size inb_S16_S16_0) acc Finset.univ (View.stores_vmem_bits_univ h_S16 rfl) (.inl rfl))

/-- The row of the shared table that is the tile's own. -/
def ownRow (i : grid0.Coords) (h : k0_cond1 i = 1#1) (stage : Memref sig .scVector .shared S16x16 .f32) : Memref sig .scVector .shared S16 .f32 :=
  (stage.slice (Rect.unit (s := S16x16) (k0_off1 i) S1x16.size (k0_off1_inb i h)) (fun _ => rfl)).squeeze S16 squeezes_S1x16_S16

/-- The tile's vector copied to its row of the shared table. -/
def publish (i : grid0.Coords) (h : k0_cond1 i = 1#1) (vec : Memref sig .scVector .vmem S16 .f32) (hvec : vec.IsWhole)
    (stage : Memref sig .scVector .shared S16x16 .f32) (s : DmaSems sig S_) : PT (F := F) i PUnit := do
  Prog.lift (.enqueueDma vec (.here (ownRow i h stage)) (.dma s.sem) hvec.wordExact ((View.wordExact_bits rfl).reshape _ _) ⟨Or.inl rfl, trivial⟩)
  Prog.lift (.waitDma2 s.sem vec (ownRow i h stage) hvec.wordExact ((View.wordExact_bits rfl).reshape _ _))

/-- One exchange of the lane sum: the vector stored, and read back at the lanes a power of two away. -/
def foldStep (i : grid0.Coords) (h : k0_cond2 i = 1#1) (vec : Memref sig .scVector .vmem S16 .f32) (b : Fin 4) (t : FVec F S16 .f32) :
    PT (F := F) i (FVec F S16 .f32) := do
  let _ : Vec F S16 .f32 ← Prog.lift (.load vec (Rect.unit (s := S16) ![0] S16.size inb_S16_S16_0).toLoadRect (View.loadsAt_vmem h_S16))
  Prog.lift (.store vec (Rect.unit (s := S16) ![0] S16.size inb_S16_S16_0) t Finset.univ (View.stores_vmem_bits_univ h_S16 rfl) (.inl rfl))
  let w : IVec S16 32 := xori lanes (broadcast S16 (BitVec.ofNat 32 (2 ^ b.val)))
  have hw : k0_chk1 i w := (← Prog.lift (TpuEff.assume (k0_chk1 i w) (k0_chk1.dec i w))).down
  let g : Vec F S16 .f32 ← SparseCore.vectorLoadIdx vec ![w] (k0_idx1_inb i w hw h) (View.loads_vmem h_S16)
  pure (addf t g)

/-- One layer's loss: its row's lane sum, put on its lane of the result and added to the total. -/
def layerStep (i : grid0.Coords) (h : k0_cond2 i = 1#1) (vec : Memref sig .scVector .vmem S16 .f32) (part : Memref sig .scVector .vmem S16x16 .f32)
    (l : Fin 9) (st : FVec F S16 .f32 × FVec F S16 .f32) : PT (F := F) i (FVec F S16 .f32 × FVec F S16 .f32) := do
  let r : Vec F S1x16 .f32 ← Prog.lift (.load part (Rect.unit (s := S16x16) ![l.val, 0] S1x16.size (inbRow l)).toLoadRect (View.loadsAt_vmem h_S1x16))
  let t ← thread 4 (fun b t => foldStep i h vec b t) (shapeCast S16 r shapeCasts_S1x16_S16)
  pure (select (cmpi .eq lanes (broadcast S16 (BitVec.ofNat 32 l.val))) t st.1, addf st.2 t)

/-- Tile 0's last part: the shared table copied in, the nine losses and their mean, the result copied out. -/
def finish (i : grid0.Coords) (h : k0_cond2 i = 1#1) (out : Memref sig .scVector .hbm S16 .f32) (hout : out.IsWhole)
    (vec : Memref sig .scVector .vmem S16 .f32) (hvec : vec.IsWhole) (part : Memref sig .scVector .vmem S16x16 .f32) (hpart : part.IsWhole)
    (stage : Memref sig .scVector .shared S16x16 .f32) (hstage : stage.IsWhole) (s17 s18 : DmaSems sig S_) : PT (F := F) i PUnit := do
  Prog.lift (.enqueueDma stage (.here part) (.dma s17.sem) hstage.wordExact hpart.wordExact ⟨Or.inl rfl, trivial⟩)
  Prog.lift (.waitDma2 s17.sem stage part hstage.wordExact hpart.wordExact)
  let st ← thread 9 (fun l st => layerStep i h vec part l st) (zeros, zeros)
  let _ : Vec F S16 .f32 ← Prog.lift (.load vec (Rect.unit (s := S16) ![0] S16.size inb_S16_S16_0).toLoadRect (View.loadsAt_vmem h_S16))
  Prog.lift (.store vec (Rect.unit (s := S16) ![0] S16.size inb_S16_S16_0)
    (select (cmpi .eq lanes (broadcast S16 9#32)) (mulf st.2 (broadcast S16 invLayers)) st.1) Finset.univ (View.stores_vmem_bits_univ h_S16 rfl) (.inl rfl))
  Prog.lift (.enqueueDma vec (.here out) (.dma s18.sem) hvec.wordExact hout.wordExact ⟨Or.inl rfl, trivial⟩)
  Prog.lift (.waitDma2 s18.sem vec out hvec.wordExact hout.wordExact)

/-- The tile's whole program. -/
def tileProg (i : grid0.Coords) (flat : Memref sig .scVector .hbm S37785609 .f32) (base : Memref sig .scVector .hbm S2048 .i32)
    (out : Memref sig .scVector .hbm S16 .f32) (hout : out.IsWhole)
    (ms : Fin 16 → Memref sig .scVector .vmem S128 .i32) (hms : ∀ k, (ms k).IsWhole) (val : Memref sig .scVector .vmem S2048 .f32)
    (vec : Memref sig .scVector .vmem S16 .f32) (hvec : vec.IsWhole) (part : Memref sig .scVector .vmem S16x16 .f32) (hpart : part.IsWhole)
    (stage : Memref sig .scVector .shared S16x16 .f32) (hstage : stage.IsWhole) (s : DmaSems sig S_) (ss : Fin 16 → DmaSems sig S_)
    (s16 s17 s18 : DmaSems sig S_) : PT (F := F) i PUnit := do
  if h1 : k0_cond1 i = 1#1 then do
    partials i flat base ms hms val vec s ss
    publish i h1 vec hvec stage s16
  else do
    pure ⟨⟩
  SparseCore.subcoreBarrier sc_bar0 (grid0.bound 1) hsub0
  if h2 : k0_cond2 i = 1#1 then do
    finish i h2 out hout vec hvec part hpart stage hstage s17 s18
  else do
    pure ⟨⟩
  pure ⟨⟩

end Cert.Proof.KI
end
-- ==== Proof.Ideal.Setup.lean ====
module

public import proofs.«01_k».proof.Proof.Ideal.Body
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Batch
public import Idealize.ShloMosaic.Lib.Tactic

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
/-- The SparseCore of the call's core number `c`. -/
abbrev coreOf (c : Fin ((K (F := F)).nCore 0)) : Fin τ.nSC := (K (F := F)).core 0 c
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier cells' rounds, the transfers' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

variable [FloatOps F] [Named F]

abbrev D : Defs nD τ sig (Elt F) (ΛP (F := F)) := Pipeline.defs pcfgs defs₀

/-! ## A tile's programs -/

abbrev cV (L : grid0.Coords) : Fin τ.nSC := (L 0).castLE hcore0
abbrev jV (L : grid0.Coords) : Fin τ.nSub := (L 1).castLE hsub0
/-- The tile at `L`, as a thread. -/
abbrev thr (d : Dev nD) (L : grid0.Coords) : Thread nD τ := V d (cV L) (jV L)

/-- The weakest precondition of a tile's program. -/
abbrev twp {α : Type} (d : Dev nD) (L : grid0.Coords) (p : PT (F := F) L α) (Q : α → sProp 𝕄) : sProp 𝕄 :=
  wp frame (wpE (defs₀ (F := F)) 𝒱₀ (thr d L) none) Set.univ p Q

/-- A repetition keeps an assertion counted by the steps done. -/
theorem wp_each {d : Dev nD} {L : grid0.Coords} : ∀ (n : ℕ) (f : Fin n → PT (F := F) L PUnit) (I : ℕ → sProp 𝕄)
    (_ : ∀ k : Fin n, I k.val ⊢ twp d L (f k) fun _ => I (k.val + 1)), I 0 ⊢ twp d L (each n f) fun _ => I n
  | 0, f, I, _ => le_wp_ret frame _ _ PUnit.unit fun _ => I 0
  | n + 1, f, I, h => by
    rw [each, twp, wp_bind]
    refine (h 0).trans (wp_mono frame _ _ fun _ => ?_)
    exact wp_each n (fun k => f k.succ) (fun k => I (k + 1)) (fun k => h k.succ)

/-- A threaded repetition keeps an assertion of the value threaded, counted by the steps done. -/
theorem wp_thread {d : Dev nD} {L : grid0.Coords} {α : Type} : ∀ (n : ℕ) (f : Fin n → α → PT (F := F) L α) (I : ℕ → α → sProp 𝕄)
    (_ : ∀ (k : Fin n) (a : α), I k.val a ⊢ twp d L (f k a) fun b => I (k.val + 1) b) (a : α),
    I 0 a ⊢ twp d L (thread n f a) fun b => I n b
  | 0, f, I, _, a => le_wp_ret frame _ _ a fun b => I 0 b
  | n + 1, f, I, h, a => by
    rw [thread, twp, wp_bind]
    refine (h 0 a).trans (wp_mono frame _ _ fun b => ?_)
    exact wp_thread n (fun k => f k.succ) (fun k => I (k + 1)) (fun k => h k.succ) b

end Cert.Proof.KI
end
-- ==== Proof.Ideal.Fetch.lean ====
module

public import proofs.«01_k».proof.Proof.Ideal.Setup

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (d : Dev nD) (L : grid0.Coords)

/-- A memref's buffer, held whole at contents `f`. -/
abbrev held {sp : Space} {s : Shape} {e : EltTy} (m : Memref sig .scVector sp s e) (f : m.view.ty.Contents (Elt F)) : sProp 𝕄 :=
  m.view.loc (thr d L) ↦[m.view.set]{fullShare} f

/-- The list `m` with its first `n` words moved by `c` from `B`. -/
def wordsAt (m : Memref sig .scVector .vmem S128 .i32) (c : BitVec 32) (B : S128.Idx → BitVec 32) (n : ℕ) : sProp 𝕄 :=
  iprop(∃ f, ⌜∀ x : S128.Idx, m.view.read (Elt F) f x = if (x 0).val < n then B x + c else B x⌝ ∗ held (F := F) d L m f)

theorem wp_addStep (m : Memref sig .scVector .vmem S128 .i32) (c : BitVec 32) (B : S128.Idx → BitVec 32) (j : Fin 8) :
    wordsAt (F := F) d L m c B (16 * j.val) ⊢ twp d L (addStep L m (broadcast S16 c) j) fun _ => wordsAt d L m c B (16 * (j.val + 1)) := by
  unfold wordsAt addStep twp held
  iintro ⟨%f, %hf, H⟩
  sl_exec
  sl_step
  iexists _
  isplitr
  swap; · iexact H
  ipureintro
  intro x
  by_cases hx : 16 * j.val ≤ (x 0).val ∧ (x 0).val < 16 * j.val + 16
  · have hin : ∀ a, (x a).val = (Rect.unit (s := S128) ![16 * j.val] S16.size (inbWords j)).off a
        + (Rect.unit (s := S128) ![16 * j.val] S16.size (inbWords j)).stride a * ((fun a => ⟨(x a).val - 16 * j.val, by
            fin_cases a; show (x 0).val - 16 * j.val < 16; omega⟩ : S16.Idx) a).val := by
      intro a; fin_cases a
      show (x 0).val = 16 * j.val + 1 * ((x 0).val - 16 * j.val); omega
    rw [View.read_writes_cons_hit_of_coords m.view f (Rect.unit (s := S128) ![16 * j.val] S16.size (inbWords j)) _ [] _ x hin,
      if_pos (by omega)]
    show m.view.read (Elt F) f ((Rect.unit (s := S128) ![16 * j.val] S16.size (inbWords j)).emb _) + c = _
    rw [Rect.emb_eq_of_coords _ _ x hin, hf, if_neg (by omega)]
  · rw [View.read_writes_cons_miss_of_axis m.view f _ [] x 0 (16 * j.val) 16 rfl rfl rfl (by omega), View.writes_nil, hf]
    by_cases h2 : (x 0).val < 16 * j.val
    · rw [if_pos h2, if_pos (by omega)]
    · rw [if_neg h2, if_neg (by omega)]

/-- The words of chunk `k` of a table. -/
def chunk {α : Type} (B : S2048.Idx → α) (k : Fin 16) : S128.Idx → α :=
  fun x => B ((Rect.unit (s := S2048) ![128 * k.val] S128.size (inbChunk k)).emb x)

/-- What tile `L`'s list of chunk `k` holds: the table's words there, moved by `c`. -/
def listed (m : Memref sig .scVector .vmem S128 .i32) (B : S2048.Idx → BitVec 32) (c : BitVec 32) (k : Fin 16) : sProp 𝕄 :=
  iprop(∃ f, ⌜∀ x : S128.Idx, m.view.read (Elt F) f x = chunk B k x + c⌝ ∗ held (F := F) d L m f)

theorem wp_fetch (base : Memref sig .scVector .hbm S2048 .i32) (m : Memref sig .scVector .vmem S128 .i32) (hm : m.IsWhole)
    (s : DmaSems sig S_) (c : BitVec 32) (k : Fin 16) (q : PosShare TreeShare) (fb : base.view.ty.Contents (Elt F))
    (O : CellTallies nD τ sig (HIx 1)) (W : Waits sig (HIx 1)) :
    iprop(Transfers.MayWaits (thr d L) (default : HIx 1) O ∗ (base.view.loc (thr d L) ↦[base.view.set]{q} fb)
        ∗ (∃ f, held (F := F) d L m f) ∗ semVal (thr d L, .dma s.sem) 0 ∗ owes (thr d L) O W)
      ⊢ twp d L (fetch L base m hm s (broadcast S16 c) k) fun _ =>
        iprop((base.view.loc (thr d L) ↦[base.view.set]{q} fb)
          ∗ listed d L m (base.view.read (Elt F) fb) c k ∗ semVal (thr d L, .dma s.sem) 0
          ∗ ∃ W', ⌜∀ p ∈ W', p ∈ W ∨ p.2 = none⌝ ∗ owes (thr d L) O W') := by
  unfold fetch twp held
  generalize hE : (each 8 fun j => addStep L m (broadcast S16 c) j : PT (F := F) L PUnit) = E
  iintro ⟨#Hmw, Hb, ⟨%f, H⟩, Hs, HO⟩
  sl_exec
  subst hE
  ihave Hw := (wp_each (d := d) (L := L) 8 (fun j => addStep L m (broadcast S16 c) j)
    (fun n => wordsAt (F := F) d L m c (chunk (base.view.read (Elt F) fb) k) (16 * n)) (wp_addStep d L m c _)) $$ [H]
  · unfold wordsAt held
    iexists _
    isplitr
    swap; · iexact H
    ipureintro
    intro x
    rw [View.read_writes_cons_hit_of_coords m.view f (Rect.whole S128) _ [] x x (fun a => by
      show (x a).val = 0 + 1 * (x a).val; omega), if_neg (by omega)]
    rfl
  iapply (wp_wand frame _ _) $$ Hw
  iintro %_ Hw
  unfold wordsAt
  icases Hw with ⟨%g, %hg, H⟩
  isplitl [Hb]; · iexact Hb
  isplitl [H]
  · unfold listed
    iexists g
    isplitr
    swap; · iexact H
    ipureintro
    intro x
    rw [hg, if_pos (show (x 0).val < 16 * 8 from (x 0).isLt)]
  isplitl [Hs]; · iexact Hs
  iexists _
  isplitr
  swap; · iexact HO
  ipureintro
  intro p hp
  rcases Finset.mem_insert.mp hp with hp | hp
  · exact .inr (hp ▸ rfl)
  · exact .inl hp

end Cert.Proof.KI
end
-- ==== Proof.Ideal.GatherBatch.lean ====
module

public import proofs.«01_k».proof.Proof.Ideal.Fetch

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (d : Dev nD) (L : grid0.Coords)

/-! ## Sixteen gathers outstanding on one semaphore

The sixteen lists of 128 words name 2048 rows of the scores. Every row transfer credits the one semaphore, so the rows of all
sixteen gathers make one batch of 2048 equal transfers: each gather issues the next 128 of them, each wait consumes as many
units as 128 of them credit, and when all units are consumed all rows have landed. -/

/-- From the `k`-th transfer of a batch on: the next `m` and the rest. -/
theorem bigSep_pending_block {n : ℕ} (Φ : Fin n → sProp 𝕄) : ∀ (m k : ℕ) (h : k + m ≤ n),
    bigSep (Transfers.pending k) Φ
      = iprop((bigSep Finset.univ fun j : Fin m => Φ ⟨k + j.val, by omega⟩) ∗ bigSep (Transfers.pending (k + m)) Φ)
  | 0, k, h => by
    rw [Finset.univ_eq_empty, bigSep_empty]
    exact Entails.antisymm emp_sep.2 emp_sep.1
  | m + 1, k, h => by
    have e1 : Transfers.pending (n := n) (k + 1 + m) = Transfers.pending (k + (m + 1)) := by congr 1; omega
    have e2 : (fun j : Fin m => Φ ⟨k + 1 + j.val, by omega⟩) = fun j : Fin m => Φ ⟨k + j.succ.val, by have := j.isLt; rw [Fin.val_succ]; omega⟩ :=
      funext fun j => congrArg Φ (Fin.ext (by show k + 1 + j.val = k + (j.val + 1); omega))
    rw [Transfers.bigSep_pending_step Φ k (by omega), bigSep_pending_block Φ m (k + 1) (by omega), bigSep_univ_succ, e1, e2,
      show Φ ⟨k + (0 : Fin (m + 1)).val, by rw [Fin.val_zero]; omega⟩ = Φ ⟨k, by omega⟩ from rfl]
    refine Entails.antisymm (show (_ : sProp 𝕄) ⊢ (_ : sProp 𝕄) from ?_) (show (_ : sProp 𝕄) ⊢ (_ : sProp 𝕄) from ?_)
    · iintro ⟨A, B, C⟩
      isplitr [C]
      · isplitl [A] <;> iassumption
      · iexact C
    · iintro ⟨⟨A, B⟩, C⟩
      isplitl [A]; · iexact A
      isplitl [B] <;> iassumption

abbrev hgath : S37785609.Gathers 0 S128 := gathers_S37785609_S128

/-- The scores as the gathers address them. -/
abbrev srcOf (flat : Memref sig .scVector .hbm S37785609 .f32) : Memref sig .scVector .hbm S37785609 .f32 :=
  flat.slice (Rect.unit (s := S37785609) ![0] S37785609.size inb_S37785609_S37785609_0) (fun _ => rfl)
/-- Chunk `k` of the gathered scores. -/
abbrev dstOf (val : Memref sig .scVector .vmem S2048 .f32) (k : Fin 16) : Memref sig .scVector .vmem S128 .f32 :=
  val.slice (Rect.unit (s := S2048) ![128 * k.val] S128.size (inbChunk k)) (fun _ => rfl)

section Batch

variable (flat : Memref sig .scVector .hbm S37785609 .f32) (ms : Fin 16 → Memref sig .scVector .vmem S128 .i32)
  (val : Memref sig .scVector .vmem S2048 .f32) (s : DmaSems sig S_)
  (fs : Buf (Elt F) ((srcOf flat).view.loc (thr d L))) (fd : Buf (Elt F) (val.view.loc (thr d L)))
  (fo : (k : Fin 16) → Buf (Elt F) ((ms k).view.loc (thr d L)))
  (hin : ∀ k x, ((ms k).view.read (Elt F) (fo k) x).toNat < 37785609) (q : PosShare TreeShare)

/-- The row of the scores that word `j` of list `k` names. -/
abbrev rowAt (k : Fin 16) : Fin 128 → Fin 37785609 :=
  SparseCore.rows (F := F) (si := S128) (o := 128) ((ms k).view.read (Elt F) (fo k)) rfl (hin k)

/-- What gather `k` brings: at each place, the score its word names. -/
abbrev broughtAt (k : Fin 16) : S128.Idx → Elt F .f32 :=
  SparseCore.gatherPayload hgath ((srcOf flat).view.read (Elt F) fs) (rowAt d L ms fo hin k)

/-- One row's payload. -/
abbrev rowPay (k : Fin 16) (j : Fin 128) : (S128.rowShape hgath.axis').Idx → Elt F .f32 :=
  fun i => (srcOf flat).view.read (Elt F) fs (hgath.rowIdx (rowAt d L ms fo hin k j) i)

/-- One row of the destination of gather `k`. -/
abbrev rowV (k : Fin 16) (j : Fin 128) : View sig .scVector .vmem (S128.rowShape hgath.axis') .f32 :=
  (dstOf val k).view.slice (S128.rowRect hgath.axis' j)

/-- The share of the scores that one row's transfer reads with. -/
abbrev shareAt (k : Fin 16) (j : Fin 128) : PosShare TreeShare := pieceOf (pieceOf q 16 (by decide) k) 128 (by decide) j

/-- The stream of gather `k`. -/
abbrev strm (k : Fin 16) : Stream nD τ sig (Elt F) :=
  Stream.issued (thr d L) (ms k).view (o := 128) rfl s.sem
    (fun j w => (SparseCore.rowOf 37785609 w).map
      (SparseCore.gatherRow (thr d L) (srcOf flat) (dstOf val k) hgath s.sem (View.wordExact_bits rfl) rfl (Or.inl rfl) (by decide) j)) 0

/-- What the transfer of row `j` of gather `k` delivers: the row written, the word's share back, the scores' share back. -/
def rowDone (k : Fin 16) (j : Fin 128) : sProp 𝕄 :=
  iprop(((val.view.loc (thr d L) ↦[(rowV val k j).set]{fullShare} ((rowV val k j).write (Elt F) fd (rowPay d L flat ms fs fo hin k j) Finset.univ))
      ∗ (strm d L flat ms val s k).heldEntry fullShare (fo k) j) ∗ ((srcOf flat).view.loc (thr d L) ↦[(srcOf flat).view.set]{shareAt q k j} fs))

/-- The deliveries of the batch: transfer `t` is row `t % 128` of gather `t / 128`. -/
def done (t : Fin 2048) : sProp 𝕄 :=
  rowDone d L flat ms val s fs fd fo hin q ⟨t.val / 128, by omega⟩ ⟨t.val % 128, by omega⟩

instance done_storable (t : Fin 2048) : BI.Storable (upEmb : UEmb _ 𝕄) (done d L flat ms val s fs fd fo hin q t) := by
  unfold done rowDone; infer_instance

theorem done_at (k : Fin 16) (j : Fin 128) (h : 128 * k.val + j.val < 2048) :
    done d L flat ms val s fs fd fo hin q ⟨128 * k.val + j.val, h⟩ = rowDone d L flat ms val s fs fd fo hin q k j := by
  unfold done
  congr 1 <;> apply Fin.ext
  · show (128 * k.val + j.val) / 128 = k.val; omega
  · show (128 * k.val + j.val) % 128 = j.val; omega

/-- The batch with `j` transfers issued and `u` units consumed. -/
abbrev bat (N j u : ℕ) : sProp 𝕄 :=
  Transfers.Batch countersEmb (thr d L) (.dma s.sem) (default : HIx 1) N (done d L flat ms val s fs fd fo hin q) j u

/-- What gather `k` is issued with. -/
abbrev ready (k : Fin 16) : sProp 𝕄 :=
  iprop(((srcOf flat).view.loc (thr d L) ↦[(srcOf flat).view.set]{pieceOf q 16 (by decide) k} fs)
    ∗ (val.view.loc (thr d L) ↦[(dstOf val k).view.set]{fullShare} fd)
    ∗ held (F := F) d L (ms k) (fo k))

/-- What gather `k` has brought, with all it was issued with. -/
abbrev brought (k : Fin 16) : sProp 𝕄 :=
  iprop((val.view.loc (thr d L) ↦[(dstOf val k).view.set]{fullShare} ((dstOf val k).view.write (Elt F) fd (broughtAt d L flat ms fs fo hin k) Finset.univ))
    ∗ ((srcOf flat).view.loc (thr d L) ↦[(srcOf flat).view.set]{pieceOf q 16 (by decide) k} fs)
    ∗ held (F := F) d L (ms k) (fo k))

theorem gatherChunk_eq (k : Fin 16) : gatherChunk (F := F) L flat (ms k) val s k
    = .op (.enqueueIndirectDma (o := 128) rfl (ms k) rfl s.sem (strm (F := F) d L flat ms val s k).row) fun x => .ret x := rfl

theorem rowsAgree (k : Fin 16) : (strm (F := F) d L flat ms val s k).RowsAgree := by
  intro j x x' ρ ρ' h h'
  obtain ⟨_, _, rfl⟩ := Option.map_eq_some_iff.mp h
  obtain ⟨_, _, rfl⟩ := Option.map_eq_some_iff.mp h'
  rfl

theorem strm_entry_bijective (k : Fin 16) : Function.Bijective (strm (F := F) d L flat ms val s k).entry :=
  S128.rowMajor.symm.bijective.comp (finCongr (rfl : 128 = S128.numel)).bijective

set_option maxHeartbeats 1000000 in
/-- The issue of gather `k`: the next 128 transfers of the batch. -/
theorem wp_gatherChunk (N : ℕ) (k : Fin 16)
    (hN : ∀ j, ((dstOf val k).slice (S128.rowRect hgath.axis' j) (S128.stride_rowRect hgath.axis' j)).view.dmaCredit = N) :
    iprop(ready d L flat ms val fs fd fo q k ∗ bat d L flat ms val s fs fd fo hin q N (128 * k.val) 0)
      ⊢ twp d L (gatherChunk L flat (ms k) val s k) fun _ => bat d L flat ms val s fs fd fo hin q N (128 * (k.val + 1)) 0 := by
  have hk : 128 * k.val + 128 ≤ 2048 := by omega
  rw [gatherChunk_eq d]
  unfold twp bat Transfers.Batch
  iintro ⟨⟨Hs, Hd, Ho⟩, ⟨%γ, %γ₀, %κ, #Hinv, HI, H0, Hcred⟩⟩
  ihave HI' := (Entails.of_eq (bigSep_pending_block (fun t => count (countersEmb (U := UU)) (γ t) 0 : Fin 2048 → sProp 𝕄) 128 (128 * k.val) hk)) $$ HI
  icases HI' with ⟨Hγ, HI⟩
  ihave Hd' := (Entails.of_eq (pointsTo_rows (thr d L) (dstOf val k).view hgath.axis' fullShare fd)) $$ Hd
  ihave Ho' := (Entails.of_eq (pointsTo_entries (thr d L) (ms k).view (strm (F := F) d L flat ms val s k).entry
    (strm_entry_bijective d L flat ms val s k) fullShare (fo k))) $$ Ho
  ihave Hs' := (Entails.of_eq (pointsTo_piecesOf (srcOf flat).view.set fs (o := 128) (by decide) _)) $$ Hs
  have hrow : ∀ j : Fin 128, iprop(inv κ (Transfers.batchBody (countersEmb (U := UU)) (thr d L, SemLoc.dma s.sem) N (done d L flat ms val s fs fd fo hin q) γ γ₀)
        ∗ (((val.view.loc (thr d L) ↦[(rowV val k j).set]{fullShare} fd) ∗ (strm d L flat ms val s k).heldEntry fullShare (fo k) j)
          ∗ ((srcOf flat).view.loc (thr d L) ↦[(srcOf flat).view.set]{shareAt q k j} fs)) ∗ count (countersEmb (U := UU)) (γ ⟨128 * k.val + j.val, by omega⟩) 0)
      ⊢ iprop((strm d L flat ms val s k).heldEntry fullShare (fo k) j ∗ ((strm d L flat ms val s k).heldEntry fullShare (fo k) j -∗
          rowRes (thr d L) (SparseCore.gatherRow (thr d L) (srcOf flat) (dstOf val k) hgath s.sem (View.wordExact_bits rfl) rfl (Or.inl rfl) (by decide) j (rowAt d L ms fo hin k j)))) := fun j => by
    iintro ⟨#Hinv, ⟨⟨Hr, He⟩, Hsq⟩, Hγj⟩
    isplitl [He]; · iexact He
    iintro He
    unfold rowRes
    iexists shareAt q k j, fs, iprop((val.view.loc (thr d L) ↦[(rowV val k j).set]{fullShare} ((rowV val k j).write (Elt F) fd (rowPay d L flat ms fs fo hin k j) Finset.univ))
      ∗ (strm d L flat ms val s k).heldEntry fullShare (fo k) j)
    isplitl [Hsq]; · iexact Hsq
    isplitl [Hr He]
    · iapply writeUpdate_frame
      isplitl [Hr]
      · iapply (pointsTo_writeUpdate (thr d L) (v := rowV val k j) subset_rfl) $$ Hr
      · iexact He
    · rw [show (SparseCore.gatherRow (thr d L) (srcOf flat) (dstOf val k) hgath s.sem (View.wordExact_bits rfl) rfl (Or.inl rfl) (by decide) j (rowAt d L ms fo hin k j)).dst.view.amount
        (.dma s.sem) = N from hN j]
      iapply (Transfers.batch_creditUpdate countersEmb (D := done d L flat ms val s fs fd fo hin q) (γ := γ) (γ₀ := γ₀) ⟨128 * k.val + j.val, by omega⟩
        (Entails.of_eq (done_at d L flat ms val s fs fd fo hin q k j (by omega)).symm))
      isplitr; · iexact Hinv
      iexact Hγj
  have hrd : ∀ j : Fin 128, (strm (F := F) d L flat ms val s k).row j ((strm (F := F) d L flat ms val s k).word (fo k) j)
      = some (SparseCore.gatherRow (thr d L) (srcOf flat) (dstOf val k) hgath s.sem (View.wordExact_bits rfl) rfl (Or.inl rfl) (by decide) j (rowAt d L ms fo hin k j)) := fun j => by
    change (SparseCore.rowOf 37785609 ((ms k).view.read (Elt F) (fo k) ((strm (F := F) d L flat ms val s k).entry j))).map _ = _
    rw [SparseCore.rowOf_of_lt (hin k _)]; rfl
  have hsum : ∑ j : Fin 128, (SparseCore.gatherRow (F := F) (thr d L) (srcOf flat) (dstOf val k) hgath s.sem (View.wordExact_bits rfl) rfl (Or.inl rfl) (by decide) j
      (rowAt d L ms fo hin k j)).dst.view.dmaCredit = 128 * N := by
    exact (Finset.sum_congr rfl fun j _ => hN j).trans (show (∑ _j : Fin 128, N) = 128 * N by simp)
  iapply (wp_enqueueIndirectDma 𝒱₀ (thr d L) none Set.univ (qo := fullShare) (fo := fo k)
    (rd := fun j => SparseCore.gatherRow (thr d L) (srcOf flat) (dstOf val k) hgath s.sem (View.wordExact_bits rfl) rfl (Or.inl rfl) (by decide) j (rowAt d L ms fo hin k j))
    (default : HIx 1) (128 * N) (rowsAgree d L flat ms val s k) hrd hsum) $$ [Hd' Ho' Hs' Hγ]
  · unfold Stream.res
    ihave H1 := Transfers.bigSep_sep_in _ _ _ $$ [Hd' Ho']
    · isplitl [Hd']; · iexact Hd'
      iexact Ho'
    ihave H2 := Transfers.bigSep_sep_in _ _ _ $$ [H1 Hs']
    · isplitl [H1]; · iexact H1
      iexact Hs'
    ihave H3 := Transfers.bigSep_sep_in _ _ _ $$ [H2 Hγ]
    · isplitl [H2]; · iexact H2
      iexact Hγ
    iapply (Transfers.bigSep_mono_pers Finset.univ _ _ _ fun j _ => hrow j)
    isplitr; · iexact Hinv
    iexact H3
  iintro Hnew
  sl_step
  iexists γ, γ₀, κ
  isplitr; · iexact Hinv
  isplitl [HI]; · iexact HI
  isplitl [H0]; · iexact H0
  rw [show 128 * (k.val + 1) * N - 0 = (128 * k.val * N - 0) + 128 * N by rw [Nat.sub_zero, Nat.sub_zero]; ring, ← tallyAt_add]
  iapply (cred_add _ _).2
  isplitl [Hcred] <;> iassumption

/-- The wait for one gather: as many units as 128 row transfers credit. -/
theorem wp_waitChunk (N : ℕ) (k : Fin 16) (hN : (dstOf val k).view.dmaCredit = 128 * N) (O : CellTallies nD τ sig (HIx 1)) (W : Waits sig (HIx 1)) :
    iprop(Transfers.MayWaits (thr d L) (default : HIx 1) O ∗ bat d L flat ms val s fs fd fo hin q N 2048 (N * (128 * k.val)) ∗ owes (thr d L) O W)
      ⊢ twp d L (waitChunk L flat val s k) fun _ => iprop(bat d L flat ms val s fs fd fo hin q N 2048 (N * (128 * (k.val + 1)))
          ∗ owes (thr d L) O (insert (SemLoc.dma s.sem, (default : HIx 1)) W)) := by
  unfold waitChunk twp SparseCore.waitIndirectGather
  iintro ⟨#Hmw, HB, HO⟩
  iapply (Transfers.wp_waitBatchMulO countersEmb 𝒱₀ (thr d L) none (default : HIx 1) (N := N) 128 hN (j := 2048) (u := N * (128 * k.val))
    (by rw [show 128 * N = N * 128 by ring, ← Nat.mul_add]; exact Nat.mul_le_mul_left _ (by omega))) $$ [HB HO]
  · isplitl [HB]; · iexact HB
    isplitl [HO]; · iexact HO
    unfold Transfers.MayWaits
    iapply Hmw
  iintro ⟨HB, HO⟩
  sl_step
  rw [show N * (128 * (k.val + 1)) = N * (128 * k.val) + 128 * N by ring]
  isplitl [HB] <;> iassumption

end Batch

end Cert.Proof.KI
end
-- ==== Proof.Ideal.GatherAll.lean ====
module

public import proofs.«01_k».proof.Proof.Ideal.GatherBatch

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (d : Dev nD) (L : grid0.Coords)

/-! ## All sixteen gathers -/

/-- A repetition over its own cells, beside what it shares. -/
theorem wp_eachCell {d : Dev nD} {L : grid0.Coords} (R : sProp 𝕄) : ∀ (n : ℕ) (f : Fin n → PT (F := F) L PUnit) (A B : Fin n → sProp 𝕄)
    (_ : ∀ k : Fin n, iprop(A k ∗ R) ⊢ twp d L (f k) fun _ => iprop(B k ∗ R)),
    iprop(bigSep Finset.univ A ∗ R) ⊢ twp d L (each n f) fun _ => iprop(bigSep Finset.univ B ∗ R)
  | 0, f, A, B, _ => by
    rw [Finset.univ_eq_empty, bigSep_empty, bigSep_empty]
    exact le_wp_ret frame _ _ PUnit.unit fun _ => iprop(BI.emp ∗ R)
  | n + 1, f, A, B, h => by
    rw [each, twp, wp_bind, bigSep_univ_succ, bigSep_univ_succ]
    iintro ⟨⟨HA, HT⟩, HR⟩
    ihave Hw := (h 0) $$ [HA HR]
    · isplitl [HA] <;> iassumption
    iapply (wp_wand frame _ _) $$ Hw
    iintro %_ ⟨HB, HR⟩
    ihave Hw := (wp_eachCell R n (fun k => f k.succ) (fun k => A k.succ) (fun k => B k.succ) fun k => h k.succ) $$ [HT HR]
    · isplitl [HT] <;> iassumption
    iapply (wp_wand frame _ _) $$ Hw
    iintro %_ ⟨HT, HR⟩
    isplitr [HR]
    · isplitl [HB] <;> iassumption
    · iexact HR

section All

variable (flat : Memref sig .scVector .hbm S37785609 .f32) (ms : Fin 16 → Memref sig .scVector .vmem S128 .i32)
  (val : Memref sig .scVector .vmem S2048 .f32) (s : DmaSems sig S_)
  (fs : Buf (Elt F) ((srcOf flat).view.loc (thr d L))) (fd : Buf (Elt F) (val.view.loc (thr d L)))
  (fo : (k : Fin 16) → Buf (Elt F) ((ms k).view.loc (thr d L)))
  (hin : ∀ k x, ((ms k).view.read (Elt F) (fo k) x).toNat < 37785609) (q : PosShare TreeShare)

/-- All rows landed: every gather has brought its chunk. -/
theorem done_join : bigSep Finset.univ (done d L flat ms val s fs fd fo hin q) ⊢ bigSep Finset.univ (brought d L flat ms val fs fd fo hin q) := by
  have hre : bigSep Finset.univ (done d L flat ms val s fs fd fo hin q)
      = bigSep Finset.univ fun k : Fin 16 => bigSep Finset.univ fun j : Fin 128 => rowDone d L flat ms val s fs fd fo hin q k j := by
    rw [BI.bigSep_univ_equiv (finProdFinEquiv (m := 16) (n := 128)), BI.bigSep_univ_prod]
    refine congrArg (bigSep Finset.univ) (funext fun k => congrArg (bigSep Finset.univ) (funext fun j => ?_))
    rw [← done_at d L flat ms val s fs fd fo hin q k j (by omega)]
    exact congrArg _ (Fin.ext (by show j.val + 128 * k.val = 128 * k.val + j.val; omega))
  rw [hre]
  refine bigSep_mono fun k _ => (show (_ : sProp 𝕄) ⊢ (_ : sProp 𝕄) from ?_)
  have hW : ∀ j i, rowPay d L flat ms fs fo hin k j i = broughtAt d L flat ms fs fo hin k ((S128.rowRect hgath.axis' j).emb i) := fun j i => by
    exact congrArg ((srcOf flat).view.read (Elt F) fs) (Shape.Gathers.idx_rowRect_emb hgath (rowAt d L ms fo hin k) j i).symm
  have hr : (bigSep Finset.univ fun j : Fin 128 => val.view.loc (thr d L) ↦[(rowV val k j).set]{fullShare} ((rowV val k j).write (Elt F) fd (rowPay d L flat ms fs fo hin k j) Finset.univ))
      ⊢ (val.view.loc (thr d L) ↦[(dstOf val k).view.set]{fullShare} ((dstOf val k).view.write (Elt F) fd (broughtAt d L flat ms fs fo hin k) Finset.univ) : sProp 𝕄) :=
    pointsTo_rows_write (thr d L) (dstOf val k).view hgath.axis' fd _ _ hW
  unfold rowDone
  iintro HD
  ihave H1 := Transfers.bigSep_sep_out _ _ _ $$ HD
  icases H1 with ⟨H2, Hsrc⟩
  ihave H3 := Transfers.bigSep_sep_out _ _ _ $$ H2
  icases H3 with ⟨Hrows, Hoffs⟩
  isplitl [Hrows]; · iapply hr $$ Hrows
  isplitl [Hsrc]; · iapply (Entails.of_eq (pointsTo_piecesOf (srcOf flat).view.set fs (o := 128) _ _).symm) $$ Hsrc
  iapply (Entails.of_eq (pointsTo_entries (thr d L) (ms k).view (strm (F := F) d L flat ms val s k).entry
    (strm_entry_bijective d L flat ms val s k) fullShare (fo k)).symm) $$ Hoffs

/-- The sixteen gathers issued, one after another, then waited for. -/
def gathers : PT (F := F) L PUnit := do
  each 16 fun k => gatherChunk L flat (ms k) val s k
  each 16 fun k => waitChunk L flat val s k

theorem wp_gathers (N : ℕ) (hN0 : 0 < N)
    (hrow : ∀ k : Fin 16, ∀ j, ((dstOf val k).slice (S128.rowRect hgath.axis' j) (S128.stride_rowRect hgath.axis' j)).view.dmaCredit = N)
    (hN : ∀ k : Fin 16, (dstOf val k).view.dmaCredit = 128 * N) (O : CellTallies nD τ sig (HIx 1)) (W : Waits sig (HIx 1)) :
    iprop(Transfers.MayWaits (thr d L) (default : HIx 1) O ∗ bigSep Finset.univ (ready d L flat ms val fs fd fo q)
        ∗ semVal (thr d L, .dma s.sem) 0 ∗ owes (thr d L) O W)
      ⊢ twp d L (gathers L flat ms val s) fun _ =>
        iprop(bigSep Finset.univ (brought d L flat ms val fs fd fo hin q) ∗ semVal (thr d L, .dma s.sem) 0
          ∗ ∃ W', ⌜∀ p ∈ W', p ∈ W ∨ p.2 = none⌝ ∗ owes (thr d L) O W') := by
  unfold gathers
  rw [twp, wp_bind]
  iintro ⟨#Hmw, HR, Hv, HO⟩
  imod (Transfers.batch_alloc' countersEmb (c := thr d L) (default : HIx 1) N (done d L flat ms val s fs fd fo hin q)) $$ Hv with HB
  ihave Hw := (wp_each (d := d) (L := L) 16 (fun k => gatherChunk L flat (ms k) val s k)
    (fun n => iprop(bigSep (Transfers.pending n) (ready d L flat ms val fs fd fo q) ∗ bat d L flat ms val s fs fd fo hin q N (128 * n) 0)) (fun k => by
      rw [Transfers.bigSep_pending_step _ k.val k.isLt]
      iintro ⟨⟨Hk, HP⟩, HB⟩
      ihave Hw := (wp_gatherChunk d L flat ms val s fs fd fo hin q N k (hrow k)) $$ [Hk HB]
      · isplitl [Hk] <;> iassumption
      iapply (wp_wand frame _ _) $$ Hw
      iintro %_ HB
      isplitl [HP] <;> iassumption)) $$ [HR HB]
  · isplitl [HR]
    · rw [Transfers.pending_zero]; iexact HR
    · iexact HB
  iapply (wp_wand frame _ _) $$ Hw
  iintro %_ ⟨-, HB⟩
  ihave Hw := (wp_each (d := d) (L := L) 16 (fun k => waitChunk L flat val s k)
    (fun n => iprop(Transfers.MayWaits (thr d L) (default : HIx 1) O ∗ bat d L flat ms val s fs fd fo hin q N 2048 (N * (128 * n))
      ∗ ∃ W', ⌜∀ p ∈ W', p ∈ W ∨ p.2 = none⌝ ∗ owes (thr d L) O W')) (fun k => by
      iintro ⟨#Hmw, HB, %W', %hW', HO⟩
      ihave Hw := (wp_waitChunk d L flat ms val s fs fd fo hin q N k (hN k) O W') $$ [HB HO]
      · isplitr; · iexact Hmw
        isplitl [HB] <;> iassumption
      iapply (wp_wand frame _ _) $$ Hw
      iintro %_ ⟨HB, HO⟩
      isplitr; · iexact Hmw
      isplitl [HB]; · iexact HB
      iexists _
      isplitr
      swap; · iexact HO
      ipureintro
      intro p hp
      rcases Finset.mem_insert.mp hp with hp | hp
      · exact .inr (hp ▸ rfl)
      · exact hW' p hp)) $$ [HB HO]
  · isplitr; · iexact Hmw
    isplitl [HB]; · iexact HB
    iexists W
    isplitr
    · ipureintro; exact fun p hp => .inl hp
    · iexact HO
  iapply (wp_fupd frame _ _)
  iapply (wp_wand frame _ _) $$ Hw
  iintro %_ ⟨-, HB, HO⟩
  imod (Transfers.batch_collect' countersEmb _ hN0) $$ HB with ⟨HD, Hv⟩
  ihave HD := (done_join d L flat ms val s fs fd fo hin q) $$ HD
  imodintro
  isplitl [HD]; · iexact HD
  isplitl [Hv]; · iexact Hv
  iexact HO

end All

end Cert.Proof.KI
end
-- ==== Proof.Ideal.Sum.lean ====
module

public import proofs.«01_k».proof.Proof.Ideal.GatherAll

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (d : Dev nD) (L : grid0.Coords)

/-! ## What a tile sums -/

theorem scores_pos : ∀ a, 0 < S37785609.size a := by intro a; fin_cases a; show 0 < 37785609; omega
theorem table_pos : ∀ a, 0 < S2048.size a := by intro a; fin_cases a; show 0 < 2048; omega

/-- Place `n` of the flat scores. -/
def scoreIx (n : ℕ) : S37785609.Idx := fun a => ⟨n % S37785609.size a, Nat.mod_lt _ (scores_pos a)⟩
/-- Place `n` of the table of words. -/
def tableIx (n : ℕ) : S2048.Idx := fun a => ⟨n % S2048.size a, Nat.mod_lt _ (table_pos a)⟩

/-- The scores the words of `B`, moved by `c`, name. -/
def picked (B : S2048.Idx → BitVec 32) (c : BitVec 32) (x : S37785609.Idx → F .f32) : S2048.Idx → F .f32 :=
  fun i => x (scoreIx (B i + c).toNat)

/-- Group `n` of sixteen. -/
def group (v : S2048.Idx → F .f32) (n : ℕ) : FVec F S16 .f32 := fun x => v (tableIx (16 * n + (x 0).val))

/-- The sum of the first `n` groups, each weighted. -/
def sumTo (v : S2048.Idx → F .f32) : ℕ → FVec F S16 .f32
  | 0 => zeros
  | n + 1 => addf (sumTo v n) (mulf (group v n) weights)

/-! ## The gathered scores, by chunks -/

section Chunks

variable (val : Memref sig .scVector .vmem S2048 .f32)

theorem chunk_emb (k : Fin 16) (y : S128.Idx) :
    (Rect.unit (s := S2048) ![128 * k.val] S128.size (inbChunk k)).emb y = tableIx (128 * k.val + (y 0).val) :=
  Rect.emb_eq_of_coords _ _ _ fun a => by
    fin_cases a
    have := (y 0).isLt
    show (128 * k.val + (y 0).val) % 2048 = 128 * k.val + 1 * (y 0).val
    have h : (y 0).val < 128 := (y 0).isLt
    omega

theorem exists_chunk (x : S2048.Idx) : ∃ (k : Fin 16) (y : S128.Idx), (Rect.unit (s := S2048) ![128 * k.val] S128.size (inbChunk k)).emb y = x := by
  have h : (x 0).val < 2048 := (x 0).isLt
  refine ⟨⟨(x 0).val / 128, by omega⟩, fun a => ⟨(x 0).val % 128, by fin_cases a; show _ < 128; omega⟩, ?_⟩
  refine Rect.emb_eq_of_coords _ _ _ fun a => ?_
  fin_cases a
  show (x 0).val = 128 * ((x 0).val / 128) + 1 * ((x 0).val % 128)
  omega

theorem set_chunks : val.view.set = Finset.univ.biUnion fun k => (dstOf val k).view.set := by
  ext i
  simp only [View.set, Finset.mem_biUnion, Finset.mem_map, Finset.mem_univ, true_and]
  constructor
  · rintro ⟨x, rfl⟩
    obtain ⟨k, y, rfl⟩ := exists_chunk x
    exact ⟨k, y, rfl⟩
  · rintro ⟨k, y, rfl⟩
    exact ⟨_, rfl⟩

theorem disjoint_chunks {k k' : Fin 16} (h : k ≠ k') : Disjoint (dstOf val k).view.set (dstOf val k').view.set := by
  refine Finset.disjoint_left.mpr fun i hi hi' => h ?_
  simp only [View.set, Finset.mem_map, Finset.mem_univ, true_and] at hi hi'
  obtain ⟨y, rfl⟩ := hi
  obtain ⟨y', hy'⟩ := hi'
  have e := congrArg Fin.val (congrFun (val.view.emb.injective hy') (0 : Fin 1))
  have e' : 128 * k'.val + 1 * (y' 0).val = 128 * k.val + 1 * (y 0).val := e
  have h1 : (y 0).val < 128 := (y 0).isLt
  have h2 : (y' 0).val < 128 := (y' 0).isLt
  exact Fin.ext (by omega)

theorem split_chunks (f : Buf (Elt F) (val.view.loc (thr d L))) :
    (held (F := F) d L val f : sProp 𝕄) = bigSep Finset.univ fun k => val.view.loc (thr d L) ↦[(dstOf val k).view.set]{fullShare} f := by
  unfold held
  rw [set_chunks val]
  exact pointsTo_biUnion Finset.univ _ fun k _ k' _ h => disjoint_chunks val h

/-- Chunks each written are the whole buffer, reading on every chunk what was written. -/
theorem join_chunks (f : Buf (Elt F) (val.view.loc (thr d L))) (w : Fin 16 → S128.Idx → F .f32) :
    (bigSep Finset.univ fun k => val.view.loc (thr d L) ↦[(dstOf val k).view.set]{fullShare} ((dstOf val k).view.write (Elt F) f (w k) Finset.univ))
      ⊢ (iprop(∃ g, ⌜∀ k y, val.view.read (Elt F) g ((Rect.unit (s := S2048) ![128 * k.val] S128.size (inbChunk k)).emb y) = w k y⌝ ∗ held (F := F) d L val g) : sProp 𝕄) := by
  have hj := pointsTo_biUnion_join (Ix := HIx 1) (Name := ℕ) (U := UU) (Lvl := ℕ) (ℓ := val.view.loc (thr d L)) (q := fullShare) Finset.univ
    (fun k => (dstOf val k).view.set) (fun k => (dstOf val k).view.write (Elt F) f (w k) Finset.univ) f fun k _ k' _ h => disjoint_chunks val h
  refine hj.trans (show (_ : sProp 𝕄) ⊢ (_ : sProp 𝕄) from ?_)
  rw [← set_chunks val]
  iintro ⟨%g, %hg, H⟩
  iexists g
  isplitr
  swap; · iexact H
  ipureintro
  intro k y
  have h1 := hg k (Finset.mem_univ k) ((dstOf val k).view.emb y) (Finset.mem_map_of_mem _ (Finset.mem_univ y))
  have h2 : (dstOf val k).view.read (Elt F) g y = (dstOf val k).view.read (Elt F) ((dstOf val k).view.write (Elt F) f (w k) Finset.univ) y := by
    rw [View.read_apply, View.read_apply, h1]
  rw [View.read_write_univ] at h2
  exact h2

end Chunks

/-! ## The sum over the groups -/

theorem wp_sums (val : Memref sig .scVector .vmem S2048 .f32) (f : Buf (Elt F) (val.view.loc (thr d L))) :
    (held (F := F) d L val f : sProp 𝕄) ⊢ twp d L (thread 128 (fun g acc => sumStep L val g acc) zeros) fun acc =>
      iprop(⌜acc = sumTo (val.view.read (Elt F) f) 128⌝ ∗ held (F := F) d L val f) := by
  iintro H
  iapply (wp_thread (d := d) (L := L) 128 (fun g acc => sumStep L val g acc)
    (fun n acc => iprop(⌜acc = sumTo (val.view.read (Elt F) f) n⌝ ∗ held (F := F) d L val f)) (fun g acc => by
      unfold sumStep twp held
      iintro ⟨%hacc, H⟩
      sl_exec
      sl_step
      isplitr
      swap; · iexact H
      ipureintro
      rw [hacc]
      show addf _ (mulf _ weights) = addf _ (mulf (group _ _) weights)
      congr 2
      funext x
      show val.view.read (Elt F) f ((Rect.unit (s := S2048) ![16 * g.val] S16.size (inbGroup g)).emb x) = _
      rw [Rect.emb_eq_of_coords _ _ (tableIx (16 * g.val + (x 0).val)) fun a => by
        fin_cases a
        have h : (x 0).val < 16 := (x 0).isLt
        show (16 * g.val + (x 0).val) % 2048 = 16 * g.val + 1 * (x 0).val
        omega]
      rfl) zeros)
  isplitr
  · ipureintro; rfl
  · iexact H

/-! ## A tile's partial sums -/

/-- What a gather brings, when its list holds the table's words moved by `c`. -/
theorem broughtAt_eq (flat : Memref sig .scVector .hbm S37785609 .f32) (ms : Fin 16 → Memref sig .scVector .vmem S128 .i32)
    (fs : Buf (Elt F) ((srcOf flat).view.loc (thr d L))) (fo : (k : Fin 16) → Buf (Elt F) ((ms k).view.loc (thr d L)))
    (hin : ∀ k x, ((ms k).view.read (Elt F) (fo k) x).toNat < 37785609) (B : S2048.Idx → BitVec 32) (c : BitVec 32)
    (hfo : ∀ k x, (ms k).view.read (Elt F) (fo k) x = chunk B k x + c) (k : Fin 16) (y : S128.Idx) :
    broughtAt d L flat ms fs fo hin k y
      = picked B c (flat.view.read (Elt F) fs) ((Rect.unit (s := S2048) ![128 * k.val] S128.size (inbChunk k)).emb y) := by
  have hrd : ∀ z, (srcOf flat).view.read (Elt F) fs z = flat.view.read (Elt F) fs z := fun z => by
    show flat.view.read (Elt F) fs ((Rect.unit (s := S37785609) ![0] S37785609.size inb_S37785609_S37785609_0).emb z) = _
    rw [Rect.emb_eq_of_coords _ _ z fun a => by fin_cases a; show (z 0).val = 0 + 1 * (z 0).val; omega]
  show (srcOf flat).view.read (Elt F) fs (hgath.idx (rowAt d L ms fo hin k) y) = flat.view.read (Elt F) fs (scoreIx _)
  rw [hrd]
  congr 1
  have hy : S128.rowMajor.symm ((y 0).cast (rfl : 128 = S128.numel)) = y :=
    (Equiv.symm_apply_eq _).2 (Fin.ext (Shape.rowMajor_val_one y).symm)
  have hx := hgath.idx_axis (rowAt d L ms fo hin k) y
  funext b
  have hb : b = hgath.axis := Subsingleton.elim (α := Fin 1) _ _
  subst hb
  rw [hx]
  apply Fin.ext
  show ((ms k).view.read (Elt F) (fo k) (S128.rowMajor.symm ((y 0).cast (rfl : 128 = S128.numel)))).toNat = (chunk B k y + c).toNat % 37785609
  rw [hy, Nat.mod_eq_of_lt (hfo k y ▸ hin k y), hfo]

end Cert.Proof.KI
end
-- ==== Proof.Ideal.Partials.lean ====
module

public import proofs.«01_k».proof.Proof.Ideal.Sum

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (d : Dev nD) (L : grid0.Coords)

/-! ## A tile's partial sums, left in its vector -/

theorem set_srcOf (flat : Memref sig .scVector .hbm S37785609 .f32) : (srcOf flat).view.set = flat.view.set := by
  have he : ∀ z, (Rect.unit (s := S37785609) ![0] S37785609.size inb_S37785609_S37785609_0).emb z = z := fun z =>
    Rect.emb_eq_of_coords _ _ z fun a => by fin_cases a; show (z 0).val = 0 + 1 * (z 0).val; omega
  ext i
  simp only [View.set, Finset.mem_map, Finset.mem_univ, true_and]
  constructor
  · rintro ⟨x, rfl⟩; exact ⟨_, rfl⟩
  · rintro ⟨x, rfl⟩; exact ⟨x, congrArg flat.view.emb (he x)⟩

section Partials

variable (flat : Memref sig .scVector .hbm S37785609 .f32) (base : Memref sig .scVector .hbm S2048 .i32)
  (ms : Fin 16 → Memref sig .scVector .vmem S128 .i32) (hms : ∀ k, (ms k).IsWhole) (val : Memref sig .scVector .vmem S2048 .f32)
  (vec : Memref sig .scVector .vmem S16 .f32) (s : DmaSems sig S_) (ss : Fin 16 → DmaSems sig S_)

/-- The layer's offset, as a word. -/
abbrev offOf : BitVec 32 := Scalar.muli (BitVec.ofNat 32 (L 1).val) 4198401#32

theorem partials_eq : partials (F := F) L flat base ms hms val vec s ss
    = (each 16 (fun k => fetch L base (ms k) (hms k) (ss k) (broadcast S16 (offOf L)) k) >>= fun _ =>
        each 16 (fun k => gatherChunk L flat (ms k) val s k) >>= fun _ =>
        each 16 (fun k => waitChunk L flat val s k) >>= fun _ =>
        thread 128 (fun g acc => sumStep L val g acc) zeros >>= fun acc => do
          let _ : Vec F S16 .f32 ← Prog.lift (.load vec (Rect.unit (s := S16) ![0] S16.size inb_S16_S16_0).toLoadRect (View.loadsAt_vmem h_S16))
          Prog.lift (.store vec (Rect.unit (s := S16) ![0] S16.size inb_S16_S16_0) acc Finset.univ (View.stores_vmem_bits_univ h_S16 rfl) (.inl rfl))) := rfl

theorem wp_partials (N : ℕ) (hN0 : 0 < N)
    (hrow : ∀ k : Fin 16, ∀ j, ((dstOf val k).slice (S128.rowRect hgath.axis' j) (S128.stride_rowRect hgath.axis' j)).view.dmaCredit = N)
    (hN : ∀ k : Fin 16, (dstOf val k).view.dmaCredit = 128 * N)
    (q qb : PosShare TreeShare) (fs : Buf (Elt F) (flat.view.loc (thr d L))) (fb : Buf (Elt F) (base.view.loc (thr d L)))
    (hB : ∀ i, (base.view.read (Elt F) fb i + offOf L).toNat < 37785609)
    (O : CellTallies nD τ sig (HIx 1)) (W : Waits sig (HIx 1)) :
    iprop(Transfers.MayWaits (thr d L) (default : HIx 1) O ∗ (flat.view.loc (thr d L) ↦[flat.view.set]{q} fs)
        ∗ (base.view.loc (thr d L) ↦[base.view.set]{qb} fb)
        ∗ (bigSep Finset.univ fun k : Fin 16 => iprop((∃ f, held (F := F) d L (ms k) f) ∗ semVal (thr d L, .dma (ss k).sem) 0))
        ∗ (∃ f, held (F := F) d L val f) ∗ (∃ f, held (F := F) d L vec f) ∗ semVal (thr d L, .dma s.sem) 0 ∗ owes (thr d L) O W)
      ⊢ twp d L (partials L flat base ms hms val vec s ss) fun _ =>
        iprop((flat.view.loc (thr d L) ↦[flat.view.set]{q} fs) ∗ (base.view.loc (thr d L) ↦[base.view.set]{qb} fb)
          ∗ (bigSep Finset.univ fun k : Fin 16 => iprop((∃ f, held (F := F) d L (ms k) f) ∗ semVal (thr d L, .dma (ss k).sem) 0))
          ∗ (∃ f, held (F := F) d L val f)
          ∗ (∃ f, ⌜vec.view.read (Elt F) f = sumTo (picked (base.view.read (Elt F) fb) (offOf L) (flat.view.read (Elt F) fs)) 128⌝ ∗ held (F := F) d L vec f)
          ∗ semVal (thr d L, .dma s.sem) 0
          ∗ ∃ W', ⌜∀ p ∈ W', p ∈ W ∨ p.2 = none⌝ ∗ owes (thr d L) O W') := by
  rw [partials_eq]
  rw [twp, wp_bind]
  iintro ⟨#Hmw, Hf, Hb, Hc, ⟨%fd, Hval⟩, Hvec, Hs, HO⟩
  -- the lists
  ihave Hw := (wp_eachCell (d := d) (L := L) iprop(Transfers.MayWaits (thr d L) (default : HIx 1) O ∗ (base.view.loc (thr d L) ↦[base.view.set]{qb} fb)
      ∗ ∃ W', ⌜∀ p ∈ W', p ∈ W ∨ p.2 = none⌝ ∗ owes (thr d L) O W') 16
    (fun k => fetch L base (ms k) (hms k) (ss k) (broadcast S16 (offOf L)) k)
    (fun k : Fin 16 => iprop((∃ f, held (F := F) d L (ms k) f) ∗ semVal (thr d L, .dma (ss k).sem) 0))
    (fun k : Fin 16 => iprop(listed (F := F) d L (ms k) (base.view.read (Elt F) fb) (offOf L) k ∗ semVal (thr d L, .dma (ss k).sem) 0)) (fun k => by
      iintro ⟨⟨Hm, Hv⟩, #Hmw, Hb, %W', %hW', HO⟩
      ihave Hw := (wp_fetch d L base (ms k) (hms k) (ss k) (offOf L) k qb fb O W') $$ [Hb Hm Hv HO]
      · isplitr; · iexact Hmw
        isplitl [Hb]; · iexact Hb
        isplitl [Hm]; · iexact Hm
        isplitl [Hv] <;> iassumption
      iapply (wp_wand frame _ _) $$ Hw
      iintro %_ ⟨Hb, Hm, Hv, %W'', %hW'', HO⟩
      isplitl [Hm Hv]
      · isplitl [Hm] <;> iassumption
      isplitr; · iexact Hmw
      isplitl [Hb]; · iexact Hb
      iexists W''
      isplitr
      swap; · iexact HO
      ipureintro
      intro p hp
      rcases hW'' p hp with h | h
      · exact hW' p h
      · exact .inr h)) $$ [Hb Hc HO]
  · isplitl [Hc]; · iexact Hc
    isplitr; · iexact Hmw
    isplitl [Hb]; · iexact Hb
    iexists W
    isplitr
    · ipureintro; exact fun p hp => .inl hp
    · iexact HO
  iapply (wp_wand frame _ _) $$ Hw
  iintro %_ ⟨Hc, -, Hb, %W₁, %hW₁, HO⟩
  ihave Hc := Transfers.bigSep_sep_out _ _ _ $$ Hc
  icases Hc with ⟨Hl, Hss⟩
  unfold listed
  ihave Hl := (BI.bigSep_exists_pi Finset.univ _) $$ Hl
  icases Hl with ⟨%fo, Hl⟩
  ihave Hl := (BI.bigSep_pure_sep Finset.univ _ _) $$ Hl
  icases Hl with ⟨%hfo', Hl⟩
  have hfo : ∀ k x, (ms k).view.read (Elt F) (fo k) x = chunk (base.view.read (Elt F) fb) k x + offOf L := fun k => hfo' k (Finset.mem_univ k)
  have hin : ∀ k x, ((ms k).view.read (Elt F) (fo k) x).toNat < 37785609 := fun k x => by rw [hfo]; exact hB _
  have hex : (bigSep Finset.univ fun k : Fin 16 => ((ms k).view.loc (thr d L) ↦[(ms k).view.set]{fullShare} fo k : sProp 𝕄))
      ⊢ bigSep Finset.univ fun k : Fin 16 => iprop(∃ f, (ms k).view.loc (thr d L) ↦[(ms k).view.set]{fullShare} f) :=
    bigSep_mono fun k _ => (show (_ : sProp 𝕄) ⊢ (_ : sProp 𝕄) from by iintro H; iexists _; iexact H)
  -- the gathers
  have hassoc : (each 16 (fun k => gatherChunk (F := F) L flat (ms k) val s k) >>= fun _ =>
        each 16 (fun k => waitChunk L flat val s k) >>= fun _ =>
        thread 128 (fun g acc => sumStep L val g acc) zeros >>= fun acc => do
          let _ : Vec F S16 .f32 ← Prog.lift (.load vec (Rect.unit (s := S16) ![0] S16.size inb_S16_S16_0).toLoadRect (View.loadsAt_vmem h_S16))
          Prog.lift (.store vec (Rect.unit (s := S16) ![0] S16.size inb_S16_S16_0) acc Finset.univ (View.stores_vmem_bits_univ h_S16 rfl) (.inl rfl)))
      = (gathers L flat ms val s >>= fun _ => thread 128 (fun g acc => sumStep L val g acc) zeros >>= fun acc => do
          let _ : Vec F S16 .f32 ← Prog.lift (.load vec (Rect.unit (s := S16) ![0] S16.size inb_S16_S16_0).toLoadRect (View.loadsAt_vmem h_S16))
          Prog.lift (.store vec (Rect.unit (s := S16) ![0] S16.size inb_S16_S16_0) acc Finset.univ (View.stores_vmem_bits_univ h_S16 rfl) (.inl rfl))) := by
    unfold gathers; rw [Prog.bind_assoc]
  rw [hassoc, wp_bind]
  rw [← set_srcOf flat]
  ihave Hf := (Entails.of_eq (pointsTo_piecesOf (srcOf flat).view.set fs (o := 16) (by decide) q)) $$ Hf
  ihave Hval := (Entails.of_eq (split_chunks d L val fd)) $$ Hval
  ihave Hready := Transfers.bigSep_sep_in _ _ _ $$ [Hval Hl]
  · isplitl [Hval]; · iexact Hval
    iexact Hl
  ihave Hready := Transfers.bigSep_sep_in _ _ _ $$ [Hf Hready]
  · isplitl [Hf]; · iexact Hf
    iexact Hready
  ihave Hw := (wp_gathers d L flat ms val s fs fd fo hin q N hN0 hrow hN O W₁) $$ [Hready Hs HO]
  · isplitr; · iexact Hmw
    isplitl [Hready]; · iexact Hready
    isplitl [Hs] <;> iassumption
  iapply (wp_wand frame _ _) $$ Hw
  iintro %_ ⟨HB, Hs, %W₂, %hW₂, HO⟩
  ihave HB := Transfers.bigSep_sep_out _ _ _ $$ HB
  icases HB with ⟨Hval, HB⟩
  ihave HB := Transfers.bigSep_sep_out _ _ _ $$ HB
  icases HB with ⟨Hf, Hl⟩
  ihave Hf := (Entails.of_eq (pointsTo_piecesOf (srcOf flat).view.set fs (o := 16) _ q).symm) $$ Hf
  ihave Hval := (join_chunks d L val fd (broughtAt d L flat ms fs fo hin)) $$ Hval
  icases Hval with ⟨%g, %hg, Hval⟩
  have hg' : val.view.read (Elt F) g = picked (base.view.read (Elt F) fb) (offOf L) (flat.view.read (Elt F) fs) := by
    funext x
    obtain ⟨k, y, rfl⟩ := exists_chunk x
    rw [hg, broughtAt_eq d L flat ms fs fo hin _ _ hfo]
  -- the sums
  rw [wp_bind]
  ihave Hw := (wp_sums d L val g) $$ Hval
  iapply (wp_wand frame _ _) $$ Hw
  iintro %acc ⟨%hacc, Hval⟩
  unfold held
  icases Hvec with ⟨%fv, Hvec⟩
  sl_exec
  sl_step
  isplitl [Hf]; · iexact Hf
  isplitl [Hb]; · iexact Hb
  isplitl [Hl Hss]
  · iapply (Transfers.bigSep_sep_in _ _ _)
    isplitl [Hl]
    · iapply hex $$ Hl
    · iexact Hss
  isplitl [Hval]; · iexists _; iexact Hval
  isplitl [Hvec]
  · iexists _
    isplitr
    swap; · iexact Hvec
    ipureintro
    funext x
    rw [View.read_writes_cons_hit_of_coords vec.view _ _ _ [] x x (fun a => by
      fin_cases a; show (x 0).val = 0 + 1 * (x 0).val; omega), hacc, hg']
  isplitl [Hs]; · iexact Hs
  iexists W₂
  isplitr
  swap; · iexact HO
  ipureintro
  intro p hp
  rcases hW₂ p hp with h | h
  · exact hW₁ p h
  · exact .inr h

end Partials

end Cert.Proof.KI
end
-- ==== Proof.Ideal.Finish.lean ====
module

public import proofs.«01_k».proof.Proof.Ideal.Partials

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (d : Dev nD) (L : grid0.Coords)

/-! ## The result, of the table of partial sums -/

/-- Lane `n` of sixteen. -/
def laneIx (n : ℕ) : S16.Idx := fun a => ⟨n % 16, by fin_cases a; exact Nat.mod_lt _ (by decide)⟩

/-- Cell `(r, n)` of the table. -/
def cellIx (r n : ℕ) : S16x16.Idx := fun a =>
  ⟨(if a = 0 then r else n) % 16, by fin_cases a <;> exact Nat.mod_lt _ (by decide)⟩

/-- One exchange: every lane with the lane `2 ^ b` away added to it. -/
def foldVal (b : ℕ) (t : FVec F S16 .f32) : FVec F S16 .f32 := addf t fun x => t (laneIx ((x 0).val ^^^ 2 ^ b))

/-- The first `n` exchanges. -/
def foldTo (t : FVec F S16 .f32) : ℕ → FVec F S16 .f32
  | 0 => t
  | n + 1 => foldVal n (foldTo t n)

/-- Row `n` of the table. -/
def rowOf (p : S16x16.Idx → F .f32) (n : ℕ) : FVec F S16 .f32 := fun x => p (cellIx n (x 0).val)

/-- The losses of the first `n` layers on their lanes, and their total. -/
def layersTo (p : S16x16.Idx → F .f32) : ℕ → FVec F S16 .f32 × FVec F S16 .f32
  | 0 => (zeros, zeros)
  | n + 1 => (select (cmpi .eq lanes (broadcast S16 (BitVec.ofNat 32 n))) (foldTo (rowOf p n) 4) (layersTo p n).1, addf (layersTo p n).2 (foldTo (rowOf p n) 4))

/-- The sixteen lanes the last tile writes. -/
def resultOf (p : S16x16.Idx → F .f32) : FVec F S16 .f32 :=
  select (cmpi .eq lanes (broadcast S16 9#32)) (mulf (layersTo p 9).2 (broadcast S16 invLayers)) (layersTo p 9).1

/-! ## The exchange -/

/-- The lanes `2 ^ b` away. -/
abbrev swapped (b : Fin 4) : IVec S16 32 := xori lanes (broadcast S16 (BitVec.ofNat 32 (2 ^ b.val)))

theorem lanes_apply (x : S16.Idx) : lanes x = BitVec.ofNat 32 (x 0).val := by
  show BitVec.ofNat 32 (0 * 16 + (x 0).val) = _
  rw [Nat.zero_mul, Nat.zero_add]

theorem swapped_toNat (b : Fin 4) (x : S16.Idx) : (swapped b x).toNat = (x 0).val ^^^ 2 ^ b.val := by
  have h : ∀ (b : Fin 4) (n : Fin 16), (BitVec.ofNat 32 n.val ^^^ BitVec.ofNat 32 (2 ^ b.val)).toNat = n.val ^^^ 2 ^ b.val := by decide
  show (lanes x ^^^ BitVec.ofNat 32 (2 ^ b.val)).toNat = _
  rw [lanes_apply]
  exact h b (x 0)

theorem swapped_lt (b : Fin 4) (n : Fin 16) : n.val ^^^ 2 ^ b.val < 16 := by
  revert b n; decide

theorem swapped_chk (i : grid0.Coords) (b : Fin 4) : k0_chk1 i (swapped b) := by
  intro _ a x
  fin_cases a
  show (swapped b x).toNat < 16
  rw [swapped_toNat]
  exact swapped_lt b (x 0)

theorem wp_foldStep (h : k0_cond2 L = 1#1) (vec : Memref sig .scVector .vmem S16 .f32) (hvec : vec.IsWhole) (b : Fin 4) (t : FVec F S16 .f32) :
    (∃ f, held (F := F) d L vec f : sProp 𝕄) ⊢ twp d L (foldStep L h vec b t) fun r =>
      iprop(⌜r = foldVal b.val t⌝ ∗ ∃ f, held (F := F) d L vec f) := by
  have hchk : k0_chk1 L (swapped b) := swapped_chk L b
  unfold foldStep twp held
  iintro ⟨%f, H⟩
  sl_exec
  iapply (SparseCore.wp_vectorLoadIdx 𝒱₀ (thr d L) none Set.univ (base := vec) (S := vec.view.set) (q := fullShare) (by
    rw [hvec.set_eq_univ]; exact Finset.subset_univ _)) $$ H
  iintro H
  sl_step
  isplitr
  swap; · iexists _; iexact H
  ipureintro
  funext x
  show FloatOps.addf _ _ = FloatOps.addf _ _
  congr 1
  show vec.view.read (Elt F) _ ((Rect.whole S16).emb _) = _
  refine View.read_writes_cons_hit_of_coords vec.view f (Rect.unit (s := S16) ![0] S16.size inb_S16_S16_0) t [] (laneIx ((x 0).val ^^^ 2 ^ b.val)) _ ?_
  intro a
  fin_cases a
  show 0 + 1 * (swapped b x).toNat = 0 + 1 * (((x 0).val ^^^ 2 ^ b.val) % 16)
  rw [swapped_toNat, Nat.mod_eq_of_lt (swapped_lt b (x 0))]

/-! ## One layer -/

theorem wp_layerStep (h : k0_cond2 L = 1#1) (vec : Memref sig .scVector .vmem S16 .f32) (hvec : vec.IsWhole)
    (part : Memref sig .scVector .vmem S16x16 .f32) (p : Buf (Elt F) (part.view.loc (thr d L))) (l : Fin 9) (st : FVec F S16 .f32 × FVec F S16 .f32) :
    iprop(⌜st = layersTo (part.view.read (Elt F) p) l.val⌝ ∗ held (F := F) d L part p ∗ ∃ f, held (F := F) d L vec f : sProp 𝕄)
      ⊢ twp d L (layerStep L h vec part l st) fun r =>
      iprop(⌜r = layersTo (part.view.read (Elt F) p) (l.val + 1)⌝ ∗ held (F := F) d L part p ∗ ∃ f, held (F := F) d L vec f) := by
  unfold layerStep twp
  generalize hT : (thread 4 (fun b t => foldStep (F := F) L h vec b t)) = E
  iintro ⟨%hst, Hp, Hv⟩
  unfold held
  sl_exec
  generalize hE : shapeCast S16 _ _ = t
  have ht : t = rowOf (part.view.read (Elt F) p) l.val := by
    rw [← hE]
    funext x
    show part.view.read (Elt F) p ((Rect.unit (s := S16x16) ![l.val, 0] S1x16.size (inbRow l)).emb (Shape.reshapeEquiv _ x)) = _
    rw [Shape.reshapeEquiv_cons_one (d := ![16])]
    rw [Rect.emb_eq_of_coords _ _ (cellIx l.val (x 0).val) fun a => ?_]
    · rfl
    · fin_cases a
      · have := l.isLt
        show (l.val % 16) = l.val + 1 * 0
        omega
      · have : (x 0).val < 16 := (x 0).isLt
        show (x 0).val % 16 = 0 + 1 * (x 0).val
        omega
  subst hT
  rw [wp_bind]
  ihave Hw := (wp_thread (d := d) (L := L) 4 (fun b t => foldStep L h vec b t)
    (fun n r => iprop(⌜r = foldTo t n⌝ ∗ ∃ f, held (F := F) d L vec f)) (fun b r => by
      iintro ⟨%hr, Hv⟩
      ihave Hw := (wp_foldStep d L h vec hvec b r) $$ Hv
      iapply (wp_wand frame _ _) $$ Hw
      iintro %r' ⟨%hr', Hv⟩
      isplitr
      · ipureintro; rw [hr', hr]; rfl
      · iexact Hv) t) $$ [Hv]
  · isplitr
    · ipureintro; rfl
    · iexact Hv
  iapply (wp_wand frame _ _) $$ Hw
  iintro %r ⟨%hr, Hv⟩
  sl_step
  isplitr
  · ipureintro
    rw [hr, ht, hst]
    rfl
  isplitl [Hp]
  · iexact Hp
  · iexact Hv

/-! ## The last part -/

theorem wp_finish (h : k0_cond2 L = 1#1) (out : Memref sig .scVector .hbm S16 .f32) (hout : out.IsWhole)
    (vec : Memref sig .scVector .vmem S16 .f32) (hvec : vec.IsWhole) (part : Memref sig .scVector .vmem S16x16 .f32) (hpart : part.IsWhole)
    (stage : Memref sig .scVector .shared S16x16 .f32) (hstage : stage.IsWhole) (s17 s18 : DmaSems sig S_)
    (p : Buf (Elt F) (stage.view.loc (thr d L))) (O : CellTallies nD τ sig (HIx 1)) (W : Waits sig (HIx 1)) :
    iprop(Transfers.MayWaits (thr d L) (default : HIx 1) O ∗ (∃ f, held (F := F) d L out f) ∗ (∃ f, held (F := F) d L vec f)
        ∗ (∃ f, held (F := F) d L part f) ∗ held (F := F) d L stage p ∗ semVal (thr d L, .dma s17.sem) 0 ∗ semVal (thr d L, .dma s18.sem) 0
        ∗ owes (thr d L) O W)
      ⊢ twp d L (finish L h out hout vec hvec part hpart stage hstage s17 s18) fun _ =>
        iprop((∃ f, ⌜out.view.read (Elt F) f = resultOf (stage.view.read (Elt F) p)⌝ ∗ held (F := F) d L out f) ∗ (∃ f, held (F := F) d L vec f)
          ∗ (∃ f, held (F := F) d L part f) ∗ held (F := F) d L stage p ∗ semVal (thr d L, .dma s17.sem) 0 ∗ semVal (thr d L, .dma s18.sem) 0
          ∗ ∃ W', ⌜∀ p ∈ W', p ∈ W ∨ p.2 = none⌝ ∗ owes (thr d L) O W') := by
  unfold finish twp held
  generalize hT : (thread 9 (fun l st => layerStep (F := F) L h vec part l st)) = E
  iintro ⟨#Hmw, ⟨%fo, Ho⟩, ⟨%fv, Hv⟩, ⟨%fp, Hp⟩, Hst, H17, H18, HO⟩
  sl_exec
  subst hT
  rw [wp_bind]
  have hread : ∀ (fp : Buf (Elt F) (part.view.loc (thr d L))) (w : S16x16.Idx → F .f32), part.view.read (Elt F) (part.view.writes (Elt F) fp [⟨Rect.whole S16x16, w⟩]) = w := by
    intro fp w
    funext x
    rw [View.read_writes_cons_hit_of_coords part.view fp (Rect.whole S16x16) w [] x x (fun a => by
      show (x a).val = 0 + 1 * (x a).val; omega)]
  have hread' : ∀ (fv : Buf (Elt F) (vec.view.loc (thr d L))) (w : S16.Idx → F .f32),
      vec.view.read (Elt F) (vec.view.writes (Elt F) fv [⟨Rect.unit (s := S16) ![0] S16.size inb_S16_S16_0, w⟩]) = w := by
    intro fv w
    funext x
    exact View.read_writes_cons_hit_of_coords vec.view fv (Rect.unit (s := S16) ![0] S16.size inb_S16_S16_0) w [] x x (fun a => by
      fin_cases a; show (x 0).val = 0 + 1 * (x 0).val; omega)
  have hreado : ∀ (fo : Buf (Elt F) (out.view.loc (thr d L))) (w : S16.Idx → F .f32),
      out.view.read (Elt F) (out.view.writes (Elt F) fo [⟨Rect.whole S16, w⟩]) = w := by
    intro fo w
    funext x
    rw [View.read_writes_cons_hit_of_coords out.view fo (Rect.whole S16) w [] x x (fun a => by
      show (x a).val = 0 + 1 * (x a).val; omega)]
  ihave Hw := (wp_thread (d := d) (L := L) 9 (fun l st => layerStep L h vec part l st)
    (fun n st => iprop(⌜st = layersTo (stage.view.read (Elt F) p) n⌝ ∗ (∃ g, ⌜part.view.read (Elt F) g = stage.view.read (Elt F) p⌝ ∗ held (F := F) d L part g)
      ∗ ∃ f, held (F := F) d L vec f)) (fun l st => by
      iintro ⟨%hst, ⟨%g, %hg, Hp⟩, Hv⟩
      ihave Hw := (wp_layerStep d L h vec hvec part g l st) $$ [Hp Hv]
      · isplitr
        · ipureintro; rw [hg]; exact hst
        isplitl [Hp]
        · iexact Hp
        · iexact Hv
      iapply (wp_wand frame _ _) $$ Hw
      iintro %r' ⟨%hr', Hp, Hv⟩
      isplitr
      · ipureintro; rw [← hg]; exact hr'
      isplitl [Hp]
      · iexists g
        isplitr
        · ipureintro; exact hg
        · iexact Hp
      · iexact Hv) (zeros, zeros)) $$ [Hp Hv]
  · isplitr
    · ipureintro; rfl
    isplitl [Hp]
    · iexists _
      isplitr
      swap; · iexact Hp
      ipureintro
      exact hread _ _
    · iexists _; iexact Hv
  iapply (wp_wand frame _ _) $$ Hw
  iintro %st ⟨%hst, ⟨%g, %hg, Hp⟩, ⟨%fv', Hv⟩⟩
  unfold held
  sl_exec
  sl_step
  isplitl [Ho]
  · iexists _
    isplitr
    swap; · iexact Ho
    ipureintro
    refine (hreado _ _).trans ?_
    refine (hread' _ _).trans ?_
    rw [hst]
    rfl
  isplitl [Hv]; · iexists _; iexact Hv
  isplitl [Hp]; · iexists _; iexact Hp
  isplitl [Hst]; · iexact Hst
  isplitl [H17]; · iexact H17
  isplitl [H18]; · iexact H18
  iexists _
  isplitr
  swap; · iexact HO
  ipureintro
  intro p hp
  rcases Finset.mem_insert.mp hp with hp | hp
  · exact .inr (hp ▸ rfl)
  rcases Finset.mem_insert.mp hp with hp | hp
  · exact .inr (hp ▸ rfl)
  · exact .inl hp

/-! ## The tile's row -/

theorem read_ownRow (h : k0_cond1 L = 1#1) (stage : Memref sig .scVector .shared S16x16 .f32) (f : Buf (Elt F) (stage.view.loc (thr d L))) (x : S16.Idx) :
    (ownRow L h stage).view.read (Elt F) f x = stage.view.read (Elt F) f (cellIx (L 1).val (x 0).val) := by
  show stage.view.read (Elt F) f ((Rect.unit (s := S16x16) (k0_off1 L) S1x16.size (k0_off1_inb L h)).emb (Shape.reshapeEquiv _ x)) = _
  rw [Shape.reshapeEquiv_cons_one (d := ![16])]
  congr 1
  refine Rect.emb_eq_of_coords _ _ _ fun a => ?_
  fin_cases a
  · have : (L 1).val < 16 := (L 1).isLt
    show (L 1).val % 16 = k0_off1 L 0 + 1 * 0
    rw [k0_off1_eq]
    show (L 1).val % 16 = (L 1).val + 1 * 0
    omega
  · have : (x 0).val < 16 := (x 0).isLt
    show (x 0).val % 16 = k0_off1 L 1 + 1 * (x 0).val
    rw [k0_off1_eq]
    show (x 0).val % 16 = 0 + 1 * (x 0).val
    omega

theorem wp_publish (h : k0_cond1 L = 1#1) (vec : Memref sig .scVector .vmem S16 .f32) (hvec : vec.IsWhole)
    (stage : Memref sig .scVector .shared S16x16 .f32) (s : DmaSems sig S_) (fv : Buf (Elt F) (vec.view.loc (thr d L)))
    (O : CellTallies nD τ sig (HIx 1)) (W : Waits sig (HIx 1)) :
    iprop(Transfers.MayWaits (thr d L) (default : HIx 1) O ∗ held (F := F) d L vec fv ∗ (∃ f, held (F := F) d L (ownRow L h stage) f)
        ∗ semVal (thr d L, .dma s.sem) 0 ∗ owes (thr d L) O W)
      ⊢ twp d L (publish L h vec hvec stage s) fun _ =>
        iprop(held (F := F) d L vec fv ∗ (∃ f : Buf (Elt F) (stage.view.loc (thr d L)), ⌜∀ x, stage.view.read (Elt F) f (cellIx (L 1).val (x 0).val) = vec.view.read (Elt F) fv x⌝
            ∗ held (F := F) d L (ownRow L h stage) f)
          ∗ semVal (thr d L, .dma s.sem) 0 ∗ ∃ W', ⌜∀ p ∈ W', p ∈ W ∨ p.2 = none⌝ ∗ owes (thr d L) O W') := by
  unfold publish twp held
  iintro ⟨#Hmw, Hv, ⟨%f, Hr⟩, Hs, HO⟩
  sl_exec
  sl_step
  isplitl [Hv]; · iexact Hv
  isplitl [Hr]
  · iexists _
    isplitr
    swap; · iexact Hr
    ipureintro
    intro x
    refine (read_ownRow d L h stage _ x).symm.trans ?_
    exact View.read_writes_cons_hit_of_coords (ownRow L h stage).view f (Rect.whole S16) (vec.view.read (Elt F) fv) [] x x (fun a => by
      show (x a).val = 0 + 1 * (x a).val; omega)
  isplitl [Hs]; · iexact Hs
  iexists _
  isplitr
  swap; · iexact HO
  ipureintro
  intro p hp
  rcases Finset.mem_insert.mp hp with hp | hp
  · exact .inr (hp ▸ rfl)
  · exact .inl hp

end Cert.Proof.KI
end
-- ==== Proof.Ideal.Arrays.lean ====
module

public import proofs.«01_k».proof.Proof.Ideal.Finish

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (d : Dev nD) (L : grid0.Coords)

/-! ## The tile's arrays and semaphores -/

abbrev flM : Memref sig .scVector .hbm S37785609 .f32 := Memref.whole main_v14_scv
abbrev bsM : Memref sig .scVector .hbm S2048 .i32 := Memref.whole main_v13_scv
abbrev ouM : Memref sig .scVector .hbm S16 .f32 := Memref.whole main_v15_scv
/-- The sixteen lists of indices. -/
abbrev lsM : Fin 16 → Memref sig .scVector .vmem S128 .i32 := ![Memref.whole cc0_scratch0, Memref.whole cc0_scratch1, Memref.whole cc0_scratch2, Memref.whole cc0_scratch3, Memref.whole cc0_scratch4, Memref.whole cc0_scratch5, Memref.whole cc0_scratch6, Memref.whole cc0_scratch7, Memref.whole cc0_scratch8, Memref.whole cc0_scratch9, Memref.whole cc0_scratch10, Memref.whole cc0_scratch11, Memref.whole cc0_scratch12, Memref.whole cc0_scratch13, Memref.whole cc0_scratch14, Memref.whole cc0_scratch15]
abbrev vaM : Memref sig .scVector .vmem S2048 .f32 := Memref.whole cc0_scratch16
abbrev veM : Memref sig .scVector .vmem S16 .f32 := Memref.whole cc0_scratch17
abbrev paM : Memref sig .scVector .vmem S16x16 .f32 := Memref.whole cc0_scratch18
abbrev stM : Memref sig .scVector .shared S16x16 .f32 := Memref.whole cc0_scratch19
/-- The lists' semaphores. -/
abbrev lsS : Fin 16 → DmaSems sig S_ := ![cc0_scoped0, cc0_scoped1, cc0_scoped2, cc0_scoped3, cc0_scoped4, cc0_scoped5, cc0_scoped6, cc0_scoped7, cc0_scoped8, cc0_scoped9, cc0_scoped10, cc0_scoped11, cc0_scoped12, cc0_scoped13, cc0_scoped14, cc0_scoped15]

theorem lsM_whole : ∀ k, (lsM k).IsWhole := by
  intro k
  fin_cases k <;> exact Memref.isWhole_whole _

/-- The flat scores, the table of words, the result's lanes: as every processor of device `d` names them. -/
abbrev flLoc (d : Dev nD) : Loc nD τ sig := (SparseCore.T d).loc main_v14
abbrev bsLoc (d : Dev nD) : Loc nD τ sig := (SparseCore.T d).loc main_v13
abbrev ouLoc (d : Dev nD) : Loc nD τ sig := (SparseCore.T d).loc main_v15
/-- SparseCore `c`'s shared table. -/
abbrev stLoc (d : Dev nD) (c : Fin τ.nSC) : Loc nD τ sig := (V d c ⟨0, by decide⟩).loc cc0_scratch19

theorem flLoc_eq : flM.view.loc (thr d L) = flLoc d := rfl
theorem bsLoc_eq : bsM.view.loc (thr d L) = bsLoc d := rfl
theorem ouLoc_eq : ouM.view.loc (thr d L) = ouLoc d := rfl
theorem stLoc_eq : stM.view.loc (thr d L) = stLoc d (cV L) := rfl

/-! ## The shared table's rows -/

theorem hdiv : 16 ∣ S16x16.size 0 := ⟨1, rfl⟩
abbrev row (n : Fin 16) : Rect S16x16 := Rect.part (s := S16x16) (a₀ := 0) hdiv n
abbrev rowSet (n : Fin 16) : Finset S16x16.Idx := (row n).set
theorem bound_one : grid0.bound 1 = 16 := rfl
abbrev jL : Fin 16 := Fin.cast bound_one (L 1)

theorem ownRow_rect (h : k0_cond1 L = 1#1) : Rect.unit (s := S16x16) (k0_off1 L) S1x16.size (k0_off1_inb L h) = row (jL L) := by
  unfold row Rect.part Rect.block
  congr 1 <;> funext a
  · rw [k0_off1_eq]
    match a with
    | 0 => simp [Shape.partIx, Shape.partSize]
    | 1 => simp [Shape.partIx, Shape.partSize]
  · match a with
    | 0 => simp [Shape.partSize]
    | 1 => simp [Shape.partSize]

theorem set_ownRow (h : k0_cond1 L = 1#1) : (ownRow L h stM).view.set = rowSet (jL L) := by
  have h1 : ∀ r : Rect S16x16, (stM.view.slice r).set = r.set := fun r => by
    show ((View.whole (cc0_scratch19 : Ref sig .scVector)).slice r).set = _
    rw [View.set_slice]; exact Finset.map_refl
  show ((stM.view.slice (Rect.unit (s := S16x16) (k0_off1 L) S1x16.size (k0_off1_inb L h))).reshape S16 squeezes_S1x16_S16.numel_eq).set = _
  exact (View.set_reshape _ _).trans ((h1 _).trans (congrArg (fun r : Rect S16x16 => r.set) (ownRow_rect L h)))

theorem rows_disjoint : ∀ i ∈ (Finset.univ : Finset (Fin 16)), ∀ j ∈ (Finset.univ : Finset (Fin 16)), i ≠ j → Disjoint (rowSet i) (rowSet j) :=
  fun _ _ _ _ h => Rect.part_disjoint hdiv h
theorem rows_cover : (Finset.univ : Finset (Fin 16)).biUnion rowSet = Finset.univ := Rect.biUnion_part hdiv

theorem cellIx_mem (n : Fin 16) (k : ℕ) : cellIx n.val k ∈ rowSet n := by
  refine Rect.mem_set_unit.mpr fun a => ?_
  have := n.isLt
  have hk : k % 16 < 16 := Nat.mod_lt _ (by decide)
  fin_cases a
  · simp [cellIx, Shape.partIx, Shape.partSize]; try omega
  · simp [cellIx, Shape.partIx, Shape.partSize]; try omega

abbrev stRow (c : Fin τ.nSC) (n : Fin 16) (f : Buf (Elt F) (stLoc d c)) : sProp 𝕄 := stLoc d c ↦[rowSet n]{fullShare} f

/-! ## When a tile sums, and when it finishes -/

theorem cond1_iff : ∀ c : Fin (grid0.bound 0), ∀ s : Fin (grid0.bound 1),
    (k0_cond1 (fun | 0 => c | 1 => s | ⟨_ + 2, h⟩ => absurd h (Nat.not_lt.2 (Nat.le_add_left _ _))) = 1#1 ↔ c.val = 0 ∧ s.val < 9) := by decide
theorem cond2_iff : ∀ c : Fin (grid0.bound 0), ∀ s : Fin (grid0.bound 1),
    (k0_cond2 (fun | 0 => c | 1 => s | ⟨_ + 2, h⟩ => absurd h (Nat.not_lt.2 (Nat.le_add_left _ _))) = 1#1 ↔ c.val = 0 ∧ s.val = 0) := by decide

theorem coords_eta (L : grid0.Coords) : (fun | 0 => L 0 | 1 => L 1 | ⟨_ + 2, h⟩ => absurd h (Nat.not_lt.2 (Nat.le_add_left _ _)) : grid0.Coords) = L := by
  funext a
  match a with
  | 0 => rfl
  | 1 => rfl

theorem cond1 : k0_cond1 L = 1#1 ↔ (L 0).val = 0 ∧ (L 1).val < 9 := by
  have h := cond1_iff (L 0) (L 1)
  rwa [coords_eta] at h
theorem cond2 : k0_cond2 L = 1#1 ↔ (L 0).val = 0 ∧ (L 1).val = 0 := by
  have h := cond2_iff (L 0) (L 1)
  rwa [coords_eta] at h

end Cert.Proof.KI
end
-- ==== Proof.Ideal.Own.lean ====
module

public import proofs.«01_k».proof.Proof.Ideal.Arrays

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (d : Dev nD) (L : grid0.Coords)

/-! ## A tile's own memory and semaphores -/

/-- The tile's arrays, each at contents of its own. -/
def mem : sProp 𝕄 :=
  iprop((bigSep Finset.univ fun k : Fin 16 => iprop(∃ f, held (F := F) d L (lsM k) f)) ∗ (∃ f, held (F := F) d L vaM f) ∗ (∃ f, held (F := F) d L veM f)
    ∗ ∃ f, held (F := F) d L paM f)

/-- The tile's transfer semaphores, at zero. -/
def sems : sProp 𝕄 :=
  iprop((bigSep Finset.univ fun k : Fin 16 => semVal (thr d L, .dma (lsS k).sem) 0) ∗ semVal (thr d L, .dma cc0_scratch20.sem) 0
    ∗ semVal (thr d L, .dma cc0_scoped16.sem) 0 ∗ semVal (thr d L, .dma cc0_scoped17.sem) 0 ∗ semVal (thr d L, .dma cc0_scoped18.sem) 0)

/-- A separating conjunction over a set is the one over an indexed part of it, and the rest. -/
theorem bigSep_indexed {α : Type} [DecidableEq α] {n : ℕ} {S : Finset α} (g : Fin n → α) (hg : Function.Injective g) (hS : ∀ k, g k ∈ S) (Φ : α → sProp 𝕄) :
    bigSep S Φ = iprop((bigSep Finset.univ fun k => Φ (g k)) ∗ bigSep (S \ Finset.univ.image g) Φ) := by
  rw [SparseCore.bigSep_sdiff_split' (t := Finset.univ.image g) (by
    intro x hx
    obtain ⟨k, -, rfl⟩ := Finset.mem_image.mp hx
    exact hS k), SparseCore.bigSep_image_of_injOn (fun a _ b _ e => hg e)]

abbrev lsRef (k : Fin 16) : DevRef τ sig := (Proc.scVector (cV L) (jV L)).devRef (lsM k).view.ref

def restRefs : Finset (DevRef τ sig) :=
  (((ownRefs (τ := τ) (.scVector (cV L) (jV L)) \ Finset.univ.image (lsRef L)).erase ((Proc.scVector (cV L) (jV L)).devRef cc0_scratch16)).erase
    ((Proc.scVector (cV L) (jV L)).devRef cc0_scratch17)).erase ((Proc.scVector (cV L) (jV L)).devRef cc0_scratch18)

theorem held_ls (k : Fin 16) : (iprop(∃ f, held (F := F) d L (lsM k) f) : sProp 𝕄) = iprop(∃ f, ((d, lsRef L k) : Loc nD τ sig) ↦{fullShare} f) := by
  unfold held
  rw [(lsM_whole k).set_eq_univ]

theorem lsRef_idx (k : Fin 16) : (lsRef L k).idx.val = k.val := by
  fin_cases k <;> rfl

theorem lsRef_injective : Function.Injective (lsRef L) := fun a b h =>
  Fin.ext (by rw [← lsRef_idx L a, ← lsRef_idx L b, h])

theorem lsRef_mem (k : Fin 16) : lsRef L k ∈ ownRefs (τ := τ) (sig := sig) (.scVector (cV L) (jV L)) :=
  SparseCore.Cfg.mem_ownRefs_of_owner (by fin_cases k <;> rfl)

abbrev own (r : Ref sig .scVector) : DevRef τ sig := (Proc.scVector (cV L) (jV L)).devRef r

theorem not_image (r : Ref sig .scVector) (h : 16 ≤ (own L r).idx.val) : own L r ∉ Finset.univ.image (lsRef L) := fun hm => by
  obtain ⟨k, -, hk⟩ := Finset.mem_image.mp hm
  have := k.isLt
  rw [← hk, lsRef_idx] at h
  omega

theorem own_ne (r r' : Ref sig .scVector) (h : (own L r).idx.val ≠ (own L r').idx.val) : own L r ≠ own L r' := fun e => h (by rw [e])

theorem ownBufs_eq : (ownBufs (thr d L) : sProp 𝕄)
    = iprop(mem (F := F) d L ∗ bigSep (restRefs L) fun b => iprop(∃ f, ((d, b) : Loc nD τ sig) ↦{fullShare} f)) := by
  unfold SparseCore.Cfg.ownBufs mem restRefs
  rw [bigSep_indexed (lsRef L) (lsRef_injective L) (lsRef_mem L),
    SparseCore.bigSep_erase' (i := own L cc0_scratch16) (Finset.mem_sdiff.mpr ⟨SparseCore.Cfg.mem_ownRefs_of_owner (p := Proc.scVector (cV L) (jV L)) rfl, not_image L _ (le_refl 16)⟩),
    SparseCore.bigSep_erase' (i := own L cc0_scratch17) (Finset.mem_erase.mpr ⟨own_ne L cc0_scratch17 cc0_scratch16 (show (17 : ℕ) ≠ 16 by decide),
      Finset.mem_sdiff.mpr ⟨SparseCore.Cfg.mem_ownRefs_of_owner (p := Proc.scVector (cV L) (jV L)) rfl, not_image L _ (show 16 ≤ 17 by decide)⟩⟩),
    SparseCore.bigSep_erase' (i := own L cc0_scratch18) (Finset.mem_erase.mpr ⟨own_ne L cc0_scratch18 cc0_scratch17 (show (18 : ℕ) ≠ 17 by decide),
      Finset.mem_erase.mpr ⟨own_ne L cc0_scratch18 cc0_scratch16 (show (18 : ℕ) ≠ 16 by decide),
        Finset.mem_sdiff.mpr ⟨SparseCore.Cfg.mem_ownRefs_of_owner (p := Proc.scVector (cV L) (jV L)) rfl, not_image L _ (show 16 ≤ 18 by decide)⟩⟩⟩),
    show (bigSep Finset.univ fun k : Fin 16 => iprop(∃ f, held (F := F) d L (lsM k) f))
      = bigSep Finset.univ fun k : Fin 16 => (iprop(∃ f, ((d, lsRef L k) : Loc nD τ sig) ↦{fullShare} f) : sProp 𝕄) from
      bigSep_congr fun k _ => held_ls d L k]
  have h16 : (iprop(∃ f, held (F := F) d L vaM f) : sProp 𝕄) = iprop(∃ f, ((d, own L cc0_scratch16) : Loc nD τ sig) ↦{fullShare} f) := by
    unfold held; rw [View.set_whole]
  have h17 : (iprop(∃ f, held (F := F) d L veM f) : sProp 𝕄) = iprop(∃ f, ((d, own L cc0_scratch17) : Loc nD τ sig) ↦{fullShare} f) := by
    unfold held; rw [View.set_whole]
  have h18 : (iprop(∃ f, held (F := F) d L paM f) : sProp 𝕄) = iprop(∃ f, ((d, own L cc0_scratch18) : Loc nD τ sig) ↦{fullShare} f) := by
    unfold held; rw [View.set_whole]
  rw [h16, h17, h18]
  refine Entails.antisymm (show (_ : sProp 𝕄) ⊢ (_ : sProp 𝕄) from ?_) (show (_ : sProp 𝕄) ⊢ (_ : sProp 𝕄) from ?_)
  · iintro ⟨H1, H2, H3, H4, H5⟩
    isplitr [H5]; swap; · iexact H5
    isplitl [H1]; · iexact H1
    isplitl [H2]; · iexact H2
    isplitl [H3]; · iexact H3
    iexact H4
  · iintro ⟨⟨H1, H2, H3, H4⟩, H5⟩
    isplitl [H1]; · iexact H1
    isplitl [H2]; · iexact H2
    isplitl [H3]; · iexact H3
    isplitl [H4]; · iexact H4
    iexact H5

abbrev cell (s : DmaSem sig) : GSem nD τ sig := (thr d L, .dma s)

theorem lsS_injective : Function.Injective fun k : Fin 16 => cell d L (lsS k).sem := by
  have h : Function.Injective fun k : Fin 16 => (lsS k).sem := by decide
  exact fun a b e => h (SemLoc.dma.inj (Prod.mk.inj e).2)

theorem cell_mem (s : DmaSem sig) (h : (SemLoc.dma s : SemLoc sig).isScoped .scVector = true) : cell d L s ∈ ownCells (thr d L) :=
  mem_ownCells.mpr ⟨rfl, h⟩

theorem lsS_mem (k : Fin 16) : cell d L (lsS k).sem ∈ ownCells (thr d L) := by
  have h : ∀ k : Fin 16, (SemLoc.dma (lsS k).sem : SemLoc sig).isScoped .scVector = true := by decide
  exact cell_mem d L _ (h k)

theorem cell_not_image (s : DmaSem sig) (h : ∀ k : Fin 16, (lsS k).sem ≠ s) : cell d L s ∉ Finset.univ.image fun k : Fin 16 => cell d L (lsS k).sem := fun hm => by
  obtain ⟨k, -, hk⟩ := Finset.mem_image.mp hm
  exact h k (SemLoc.dma.inj (Prod.mk.inj hk).2)

theorem cell_ne {s s' : DmaSem sig} (h : s ≠ s') : cell d L s ≠ cell d L s' := fun e => h (SemLoc.dma.inj (Prod.mk.inj e).2)

def restCells : Finset (GSem nD τ sig) :=
  ((((ownCells (thr d L) \ Finset.univ.image fun k : Fin 16 => cell d L (lsS k).sem).erase (cell d L cc0_scratch20.sem)).erase (cell d L cc0_scoped16.sem)).erase
    (cell d L cc0_scoped17.sem)).erase (cell d L cc0_scoped18.sem)

theorem ownSems_eq : (ownSems0 (thr d L) : sProp 𝕄) = iprop(sems (F := F) d L ∗ bigSep (restCells d L) fun g => semVal g 0) := by
  have hm : ∀ s : DmaSem sig, (SemLoc.dma s : SemLoc sig).isScoped .scVector = true → (∀ k : Fin 16, (lsS k).sem ≠ s) →
      cell d L s ∈ ownCells (thr d L) \ Finset.univ.image fun k : Fin 16 => cell d L (lsS k).sem := fun s h h' =>
    Finset.mem_sdiff.mpr ⟨cell_mem d L s h, cell_not_image d L s h'⟩
  unfold SparseCore.Cfg.ownSems0 sems restCells
  rw [bigSep_indexed (fun k : Fin 16 => cell d L (lsS k).sem) (lsS_injective d L) (lsS_mem d L),
    SparseCore.bigSep_erase' (i := cell d L cc0_scratch20.sem) (hm _ (by decide) (by decide)),
    SparseCore.bigSep_erase' (i := cell d L cc0_scoped16.sem) (Finset.mem_erase.mpr ⟨cell_ne d L (by decide), hm _ (by decide) (by decide)⟩),
    SparseCore.bigSep_erase' (i := cell d L cc0_scoped17.sem) (Finset.mem_erase.mpr ⟨cell_ne d L (by decide),
      Finset.mem_erase.mpr ⟨cell_ne d L (by decide), hm _ (by decide) (by decide)⟩⟩),
    SparseCore.bigSep_erase' (i := cell d L cc0_scoped18.sem) (Finset.mem_erase.mpr ⟨cell_ne d L (by decide), Finset.mem_erase.mpr ⟨cell_ne d L (by decide),
      Finset.mem_erase.mpr ⟨cell_ne d L (by decide), hm _ (by decide) (by decide)⟩⟩⟩)]
  refine Entails.antisymm (show (_ : sProp 𝕄) ⊢ (_ : sProp 𝕄) from ?_) (show (_ : sProp 𝕄) ⊢ (_ : sProp 𝕄) from ?_)
  · iintro ⟨H1, H2, H3, H4, H5, H6⟩
    isplitr [H6]; swap; · iexact H6
    isplitl [H1]; · iexact H1
    isplitl [H2]; · iexact H2
    isplitl [H3]; · iexact H3
    isplitl [H4]; · iexact H4
    iexact H5
  · iintro ⟨⟨H1, H2, H3, H4, H5⟩, H6⟩
    isplitl [H1]; · iexact H1
    isplitl [H2]; · iexact H2
    isplitl [H3]; · iexact H3
    isplitl [H4]; · iexact H4
    isplitl [H5]; · iexact H5
    iexact H6

end Cert.Proof.KI
end
-- ==== Proof.Ideal.Tile.lean ====
module

public import proofs.«01_k».proof.Proof.Ideal.Own

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (d : Dev nD) (L : grid0.Coords)

variable (A : Dev nD → S37785609.Idx → F .f32) (B : Dev nD → S2048.Idx → BitVec 32)

/-! ## What the tiles leave -/

/-- Layer `n`'s sixteen partial sums. -/
def sums (n : ℕ) : FVec F S16 .f32 := sumTo (picked (B d) (Scalar.muli (BitVec.ofNat 32 n) 4198401#32) (A d)) 128

/-- The table of the layers' partial sums. -/
def table : S16x16.Idx → F .f32 := fun y => sums d A B (y 0).val (laneIx (y 1).val)

/-- A layer's row holds its partial sums. -/
def rowIs (n : Fin 16) (f : S16x16.Idx → F .f32) : Prop := n.val < 9 → ∀ x : S16.Idx, f (cellIx n.val (x 0).val) = sums d A B n.val x

/-- Every moved word names a score. -/
def InRange (B : Dev nD → S2048.Idx → BitVec 32) : Prop :=
  ∀ d n, n < 9 → ∀ i, (B d i + Scalar.muli (BitVec.ofNat 32 n) 4198401#32).toNat < 37785609

theorem laneIx_self (x : S16.Idx) : laneIx (x 0).val = x := by
  funext a
  fin_cases a
  exact Fin.ext (Nat.mod_eq_of_lt (x 0).isLt)

theorem rowOf_table (n : ℕ) (hn : n < 9) : rowOf (table d A B) n = sums d A B n := by
  funext x
  show sums d A B (n % 16) (laneIx ((x 0).val % 16)) = _
  rw [Nat.mod_eq_of_lt (by omega : n < 16), Nat.mod_eq_of_lt (show (x 0).val < 16 from (x 0).isLt), laneIx_self]

theorem layersTo_congr (p p' : S16x16.Idx → F .f32) : ∀ n, (∀ k < n, rowOf p k = rowOf p' k) → layersTo p n = layersTo p' n
  | 0, _ => rfl
  | n + 1, h => by
    rw [layersTo, layersTo, layersTo_congr p p' n fun k hk => h k (by omega), h n (by omega)]

theorem resultOf_eq (f : S16x16.Idx → F .f32) (h : ∀ n : Fin 16, rowIs d A B n f) : resultOf f = resultOf (table d A B) := by
  unfold resultOf
  rw [layersTo_congr f (table d A B) 9 fun k hk => ?_]
  rw [rowOf_table d A B k hk]
  funext x
  exact h ⟨k, by omega⟩ hk x

/-! ## The parts before the barrier and after it -/

def first : PT (F := F) L PUnit :=
  if h1 : k0_cond1 L = 1#1 then
    partials L flM bsM lsM lsM_whole vaM veM cc0_scratch20 lsS >>= fun _ => publish L h1 veM (Memref.isWhole_whole _) stM cc0_scoped16
  else pure ⟨⟩

def last : PT (F := F) L PUnit :=
  if h2 : k0_cond2 L = 1#1 then
    finish L h2 ouM (Memref.isWhole_whole _) veM (Memref.isWhole_whole _) paM (Memref.isWhole_whole _) stM (Memref.isWhole_whole _) cc0_scoped17 cc0_scoped18
  else pure ⟨⟩

theorem tileProg_eq : tileProg (F := F) L flM bsM ouM (Memref.isWhole_whole _) lsM lsM_whole vaM veM (Memref.isWhole_whole _) paM (Memref.isWhole_whole _)
      stM (Memref.isWhole_whole _) cc0_scratch20 lsS cc0_scoped16 cc0_scoped17 cc0_scoped18
    = (first L >>= fun _ => SparseCore.subcoreBarrier sc_bar0 (grid0.bound 1) hsub0 >>= fun _ => last L >>= fun _ => pure ⟨⟩) := by
  unfold tileProg first last
  by_cases h1 : k0_cond1 L = 1#1 <;> by_cases h2 : k0_cond2 L = 1#1 <;> simp only [h1, h2, dite_true, dite_false, Prog.bind_assoc] <;> rfl

/-- What a tile of SparseCore 0 reads: its share of the flat scores and of the words. -/
def given (q : PosShare TreeShare) : sProp 𝕄 := iprop((flLoc d ↦{q} A d) ∗ (bsLoc d ↦{q} B d))

theorem given_eq (q : PosShare TreeShare) : (given d A B q : sProp 𝕄)
    = iprop((flM.view.loc (thr d L) ↦[flM.view.set]{q} A d) ∗ (bsM.view.loc (thr d L) ↦[bsM.view.set]{q} B d)) := by
  unfold given
  rw [View.set_whole, View.set_whole]

theorem wp_first (hB : InRange B) (hc : (L 0).val = 0) (q : PosShare TreeShare) (O : CellTallies nD τ sig (HIx 1)) (W : Waits sig (HIx 1)) :
    iprop(Transfers.MayWaits (thr d L) (default : HIx 1) O ∗ given d A B q ∗ mem (F := F) d L ∗ sems (F := F) d L ∗ (∃ f, stRow d (cV L) (jL L) f)
        ∗ owes (thr d L) O W)
      ⊢ twp d L (first L) fun _ =>
        iprop(given d A B q ∗ mem (F := F) d L ∗ sems (F := F) d L ∗ (∃ f, ⌜rowIs d A B (jL L) f⌝ ∗ stRow d (cV L) (jL L) f)
          ∗ ∃ W', ⌜∀ p ∈ W', p ∈ W ∨ p.2 = none⌝ ∗ owes (thr d L) O W') := by
  unfold first
  by_cases h1 : k0_cond1 L = 1#1
  · rw [dif_pos h1, twp, wp_bind]
    have hj : (L 1).val < 9 := ((cond1 L).mp h1).2
    rw [given_eq d L]
    unfold mem sems
    iintro ⟨#Hmw, ⟨Hf, Hb⟩, ⟨Hls, Hva, Hve, Hpa⟩, ⟨Hss, Hs, H16, H17, H18⟩, ⟨%f, Hrow⟩, HO⟩
    ihave Hw := (wp_partials d L flM bsM lsM lsM_whole vaM veM cc0_scratch20 lsS (vaM.view.dmaCredit / 2048) (by decide) (by decide) (by decide) q q (A d) (B d)
      (fun i => hB d _ hj i) O W) $$ [Hf Hb Hls Hva Hve Hss Hs HO]
    · isplitr; · iexact Hmw
      isplitl [Hf]; · iexact Hf
      isplitl [Hb]; · iexact Hb
      isplitl [Hls Hss]
      · iapply (Transfers.bigSep_sep_in _ _ _)
        isplitl [Hls]
        · iexact Hls
        · iexact Hss
      isplitl [Hva]; · iexact Hva
      isplitl [Hve]; · iexact Hve
      isplitl [Hs]; · iexact Hs
      iexact HO
    iapply (wp_wand frame _ _) $$ Hw
    iintro %_ ⟨Hf, Hb, Hls, Hva, ⟨%fv, %hfv, Hve⟩, Hs, ⟨%W₁, %hW₁, HO⟩⟩
    ihave Hls := Transfers.bigSep_sep_out _ _ _ $$ Hls
    icases Hls with ⟨Hls, Hss⟩
    ihave Hw := (wp_publish d L h1 veM (Memref.isWhole_whole _) stM cc0_scoped16 fv O W₁) $$ [Hve Hrow H16 HO]
    · isplitr; · iexact Hmw
      isplitl [Hve]; · iexact Hve
      isplitl [Hrow]
      · iexists f
        unfold held
        rw [set_ownRow L h1]
        iexact Hrow
      isplitl [H16]; · iexact H16
      iexact HO
    iapply (wp_wand frame _ _) $$ Hw
    iintro %_ ⟨Hve, ⟨%g, %hg, Hrow⟩, H16, ⟨%W₂, %hW₂, HO⟩⟩
    isplitl [Hf Hb]
    · isplitl [Hf]
      · iexact Hf
      · iexact Hb
    isplitl [Hls Hva Hve Hpa]
    · isplitl [Hls]; · iexact Hls
      isplitl [Hva]; · iexact Hva
      isplitl [Hve]; · iexists _; iexact Hve
      iexact Hpa
    isplitl [Hss Hs H16 H17 H18]
    · isplitl [Hss]; · iexact Hss
      isplitl [Hs]; · iexact Hs
      isplitl [H16]; · iexact H16
      isplitl [H17]; · iexact H17
      iexact H18
    isplitl [Hrow]
    · iexists g
      isplitr
      · ipureintro
        intro _ x
        refine (hg x).trans ?_
        rw [hfv]
        rfl
      · unfold held
        rw [set_ownRow L h1]
        iexact Hrow
    iexists W₂
    isplitr
    swap; · iexact HO
    ipureintro
    intro p hp
    rcases hW₂ p hp with h | h
    · exact hW₁ p h
    · exact .inr h
  · rw [dif_neg h1]
    have hj : ¬ (L 1).val < 9 := fun h => h1 ((cond1 L).mpr ⟨hc, h⟩)
    iintro ⟨-, Hg, Hm, Hs, ⟨%f, Hr⟩, HO⟩
    iapply (le_wp_ret frame _ _ PUnit.unit _)
    isplitl [Hg]; · iexact Hg
    isplitl [Hm]; · iexact Hm
    isplitl [Hs]; · iexact Hs
    isplitl [Hr]
    · iexists f
      isplitr
      · ipureintro
        exact fun h => absurd h hj
      · iexact Hr
    iexists W
    isplitr
    · ipureintro
      exact fun p hp => .inl hp
    · iexact HO

/-- What tile 0 ends with: the result's lanes, and the shared table. -/
def ended (j : Fin 16) (c : Fin τ.nSC) : sProp 𝕄 :=
  if j.val = 0 then iprop((ouLoc d ↦{fullShare} (resultOf (table d A B) : S16.Idx → F .f32)) ∗ ∃ f, stLoc d c ↦{fullShare} f) else iprop(emp)

/-- What tile 0 needs to finish: the result's array, and the shared table with every layer's partial sums. -/
def tofinish (j : Fin 16) (c : Fin τ.nSC) : sProp 𝕄 :=
  if j.val = 0 then iprop((∃ f, ouLoc d ↦{fullShare} f) ∗ ∃ f, ⌜∀ n : Fin 16, rowIs d A B n f⌝ ∗ stLoc d c ↦{fullShare} f) else iprop(emp)

theorem wp_last (hc : (L 0).val = 0) (O : CellTallies nD τ sig (HIx 1)) (W : Waits sig (HIx 1)) :
    iprop(Transfers.MayWaits (thr d L) (default : HIx 1) O ∗ mem (F := F) d L ∗ sems (F := F) d L ∗ tofinish d A B (jL L) (cV L) ∗ owes (thr d L) O W)
      ⊢ twp d L (last L) fun _ =>
        iprop(mem (F := F) d L ∗ sems (F := F) d L ∗ ended d A B (jL L) (cV L) ∗ ∃ W', ⌜∀ p ∈ W', p ∈ W ∨ p.2 = none⌝ ∗ owes (thr d L) O W') := by
  unfold last ended tofinish
  by_cases h2 : k0_cond2 L = 1#1
  · have hj : (jL L).val = 0 := ((cond2 L).mp h2).2
    rw [dif_pos h2, if_pos hj, if_pos hj]
    unfold mem sems
    iintro ⟨#Hmw, ⟨Hls, Hva, Hve, Hpa⟩, ⟨Hss, Hs, H16, H17, H18⟩, ⟨⟨%fo, Ho⟩, ⟨%p, %hp, Hst⟩⟩, HO⟩
    ihave Hw := (wp_finish d L h2 ouM (Memref.isWhole_whole _) veM (Memref.isWhole_whole _) paM (Memref.isWhole_whole _) stM (Memref.isWhole_whole _)
      cc0_scoped17 cc0_scoped18 p O W) $$ [Ho Hve Hpa Hst H17 H18 HO]
    · isplitr; · iexact Hmw
      isplitl [Ho]
      · iexists fo
        unfold held
        rw [View.set_whole]
        iexact Ho
      isplitl [Hve]; · iexact Hve
      isplitl [Hpa]; · iexact Hpa
      isplitl [Hst]
      · unfold held
        rw [View.set_whole]
        iexact Hst
      isplitl [H17]; · iexact H17
      isplitl [H18]; · iexact H18
      iexact HO
    iapply (wp_wand frame _ _) $$ Hw
    iintro %_ ⟨⟨%g, %hg, Ho⟩, Hve, Hpa, Hst, H17, H18, HO⟩
    isplitl [Hls Hva Hve Hpa]
    · isplitl [Hls]; · iexact Hls
      isplitl [Hva]; · iexact Hva
      isplitl [Hve]; · iexact Hve
      iexact Hpa
    isplitl [Hss Hs H16 H17 H18]
    · isplitl [Hss]; · iexact Hss
      isplitl [Hs]; · iexact Hs
      isplitl [H16]; · iexact H16
      isplitl [H17]; · iexact H17
      iexact H18
    isplitl [Ho Hst]
    · unfold held
      rw [View.set_whole, View.set_whole]
      isplitl [Ho]
      · have hg' : g = (resultOf (table d A B) : S16.Idx → F .f32) := Eq.trans hg (resultOf_eq d A B p hp)
        rw [← hg']
        iexact Ho
      · iexists p
        iexact Hst
    iexact HO
  · have hj : ¬ (jL L).val = 0 := fun h => h2 ((cond2 L).mpr ⟨hc, h⟩)
    rw [dif_neg h2, if_neg hj, if_neg hj]
    iintro ⟨-, Hm, Hs, -, HO⟩
    iapply (le_wp_ret frame _ _ PUnit.unit _)
    isplitl [Hm]; · iexact Hm
    isplitl [Hs]; · iexact Hs
    isplitr; · iempintro
    iexists W
    isplitr
    · ipureintro
      exact fun p hp => .inl hp
    · iexact HO

end Cert.Proof.KI
end
-- ==== Proof.Ideal.Barrier.lean ====
module

public import proofs.«01_k».proof.Proof.Ideal.Tile

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (d : Dev nD) (L : grid0.Coords)

variable (A : Dev nD → S37785609.Idx → F .f32) (B : Dev nD → S2048.Idx → BitVec 32)

/-! ## The barrier's cells -/

/-- Tile `(c, j)`'s barrier semaphore. -/
abbrev bcell (d : Dev nD) (c : Fin τ.nSC) (j : Fin τ.nSub) : GSem nD τ sig := (V d c j, .reg sc_bar0)

theorem bar_ne_go : (sc_bar0 : Sem sig) ≠ sc_go := by decide

def isBar (g : GSem nD τ sig) : Bool :=
  match g with
  | ((_, .scVector _ _), sm) => decide (sm = .reg sc_bar0)
  | _ => false

/-- Row `n` of SparseCore `c`'s table, a layer's at its partial sums. -/
def rowPts (c : Fin τ.nSC) (n : Fin 16) : sProp 𝕄 := iprop(∃ f, ⌜rowIs d A B n f⌝ ∗ stRow d c n f)

/-- What tile `n`'s arrival hands over in a tile's round: to tile 0 of SparseCore 0, the row; to the others, nothing. -/
def bPay (g : GSem nD τ sig) (n : ℕ) : sProp 𝕄 :=
  match g with
  | ((d, .scVector c j), _) => if c.val = 0 ∧ j.val = 0 then rowPts d A B c ⟨n % 16, Nat.mod_lt _ (by decide)⟩ else iprop(emp)
  | _ => iprop(emp)

/-- The barrier cells' schedule: one round, of one unit per tile of the SparseCore. -/
def bRd : Rounds.Schedule (GSem nD τ sig) ℕ 𝕄 where
  duties g r := if isBar g ∧ r = 0 then (Finset.univ : Finset (Fin τ.nSub)).image Fin.val else ∅
  amount _ _ _ := 1
  payload g _ n := bPay A B g n
  amount_pos _ _ _ _ := Nat.one_pos

instance rowPts_storable (c : Fin τ.nSC) (n : Fin 16) : BI.Storable (upEmb : UEmb _ 𝕄) (rowPts d A B c n) := by
  unfold rowPts; infer_instance

instance bRd_storable (g : GSem nD τ sig) (r n : ℕ) : BI.Storable (upEmb : UEmb _ 𝕄) ((bRd A B).payload g r n) := by
  show BI.Storable upEmb (bPay A B g n)
  unfold bPay
  rcases g with ⟨⟨d, _ | c | ⟨c, i⟩⟩, sm⟩ <;> dsimp only <;> (repeat' split) <;> infer_instance

theorem bRd_duties (d : Dev nD) (c : Fin τ.nSC) (j : Fin τ.nSub) : (bRd A B).duties (bcell d c j) 0 = (Finset.univ : Finset (Fin τ.nSub)).image Fin.val := by
  simp [bRd, isBar]
theorem bRd_later (g : GSem nD τ sig) (r : ℕ) (hr : 1 ≤ r) : (bRd A B).duties g r = ∅ :=
  if_neg fun h => absurd h.2 (Nat.ne_of_gt hr)
theorem bRd_mem (d : Dev nD) (c : Fin τ.nSC) (j i : Fin τ.nSub) : i.val ∈ (bRd A B).duties (bcell d c j) 0 := by
  rw [bRd_duties]; exact Finset.mem_image_of_mem _ (Finset.mem_univ i)
theorem bRd_expect (d : Dev nD) (c : Fin τ.nSC) (j : Fin τ.nSub) : 0 + grid0.bound 1 = (bRd A B).expect (bcell d c j) 0 := by
  unfold Rounds.Schedule.expect; rw [bRd_duties]
  show 0 + 16 = ∑ x ∈ (Finset.univ : Finset (Fin 16)).image Fin.val, 1
  rw [Finset.sum_const, Finset.card_image_of_injective _ Fin.val_injective]; rfl

/-- What a tile of SparseCore `c` owes for the barrier: a unit on every tile's cell. -/
def oxV (d : Dev nD) (c : Fin τ.nSC) : CellTallies nD τ sig (HIx 1) := ∑ j : Fin (grid0.bound 1), tallyAt (bcell d c (j.castLE hsub0)) (some 0) 1

theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

theorem oxV_pos {d : Dev nD} {c : Fin τ.nSC} {g : GSem nD τ sig} {ι : HIx 1} (h : 0 < oxV d c g ι) :
    ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- What the launch hands a tile for the barrier: every cell's invariant and that it has reached round 0, the tile's own
    position, its token in every tile's round, and the credit of its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd A B) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the barrier takes and gives -/

theorem emps (I : Type) (s : Finset I) : (bigSep s fun _ => iprop(emp)) = (iprop(emp) : sProp 𝕄) := bigSep_emp_const s

/-- The arrivals of a tile of SparseCore 0. -/
theorem pays_intro (hc : (L 0).val = 0) : (rowPts d A B (cV L) (jL L) : sProp 𝕄)
    ⊢ bigSep Finset.univ fun j : Fin (grid0.bound 1) => (bRd A B).payload (bcell d (cV L) (j.castLE hsub0)) 0 (jV L).val := by
  rw [SparseCore.bigSep_erase' (Finset.mem_univ (⟨0, by decide⟩ : Fin (grid0.bound 1))),
    show (bigSep (Finset.univ.erase (⟨0, by decide⟩ : Fin (grid0.bound 1))) fun j : Fin (grid0.bound 1) =>
        (bRd A B).payload (bcell d (cV L) (j.castLE hsub0)) 0 (jV L).val)
      = bigSep (Finset.univ.erase (⟨0, by decide⟩ : Fin (grid0.bound 1))) fun _ => (iprop(emp) : sProp 𝕄) from
      bigSep_congr fun j hj => if_neg fun h => (Finset.mem_erase.mp hj).1 (Fin.ext h.2), emps]
  iintro H
  isplitl [H]
  · show _ ⊢ bPay A B (bcell d (cV L) _) (jV L).val
    unfold bPay; dsimp only
    rw [if_pos ⟨hc, rfl⟩, show (⟨(jV L).val % 16, Nat.mod_lt _ (by decide)⟩ : Fin 16) = jL L from Fin.ext (Nat.mod_eq_of_lt (L 1).isLt)]
  · iempintro

/-- The arrivals of a tile of another SparseCore. -/
theorem pays_intro' (hc : (L 0).val ≠ 0) : (iprop(emp) : sProp 𝕄)
    ⊢ bigSep Finset.univ fun j : Fin (grid0.bound 1) => (bRd A B).payload (bcell d (cV L) (j.castLE hsub0)) 0 (jV L).val := by
  rw [show (bigSep Finset.univ fun j : Fin (grid0.bound 1) => (bRd A B).payload (bcell d (cV L) (j.castLE hsub0)) 0 (jV L).val)
      = bigSep Finset.univ fun _ => (iprop(emp) : sProp 𝕄) from bigSep_congr fun j _ => if_neg fun h => hc h.1, emps]

/-- The rows together are the table, every layer's row at its partial sums. -/
theorem rows_join (c : Fin τ.nSC) : (bigSep Finset.univ fun n : Fin 16 => rowPts d A B c n)
    ⊢ (iprop(∃ f, ⌜∀ n : Fin 16, rowIs d A B n f⌝ ∗ stLoc d c ↦{fullShare} f) : sProp 𝕄) := by
  unfold rowPts
  haveI : ∀ _ : Fin 16, Nonempty (Buf (Elt F) (stLoc d c)) := fun _ => ⟨(fun _ => Scalar.ofBits .f32 0#32 : S16x16.Idx → F .f32)⟩
  refine (BI.bigSep_exists_pi Finset.univ (fun (n : Fin 16) (f : Buf (Elt F) (stLoc d c)) => iprop(⌜rowIs d A B n f⌝ ∗ stRow d c n f))).trans ?_
  iintro ⟨%fs, H⟩
  ihave H := (BI.bigSep_pure_sep Finset.univ (fun n : Fin 16 => rowIs d A B n (fs n)) (fun n => stRow d c n (fs n))) $$ H
  icases H with ⟨%hfs, H⟩
  have hj := pointsTo_biUnion_join (Ix := HIx 1) (Name := ℕ) (U := UU) (Lvl := ℕ) (ℓ := stLoc d c) (q := fullShare) Finset.univ rowSet fs (fs 0) rows_disjoint
  ihave H := hj $$ H
  icases H with ⟨%g, %hg, H⟩
  rw [rows_cover]
  iexists g
  isplitr
  · ipureintro
    intro n hn x
    exact (hg n (Finset.mem_univ n) (cellIx n.val (x 0).val) (cellIx_mem n _)).trans (hfs n (Finset.mem_univ n) hn x)
  · iexact H

theorem rows_split (c : Fin τ.nSC) (f : Buf (Elt F) (stLoc d c)) :
    (stLoc d c ↦{fullShare} f : sProp 𝕄) = bigSep Finset.univ fun n : Fin 16 => stRow d c n f := by
  rw [← pointsTo_biUnion Finset.univ (ℓ := stLoc d c) rowSet rows_disjoint, rows_cover]

/-- What tile 0 of SparseCore 0 has after the barrier; the others have nothing. -/
def gathered (j : Fin 16) (c : Fin τ.nSC) : sProp 𝕄 :=
  if j.val = 0 then iprop(∃ f, ⌜∀ n : Fin 16, rowIs d A B n f⌝ ∗ stLoc d c ↦{fullShare} f) else iprop(emp)

theorem pays_elim (hc : (L 0).val = 0) : (bigSep ((bRd A B).duties (bcell d (cV L) (jV L)) 0 \ ∅) fun n => (bRd A B).payload (bcell d (cV L) (jV L)) 0 n)
    ⊢ (gathered d A B (jL L) (cV L) : sProp 𝕄) := by
  unfold gathered
  by_cases hj : (jL L).val = 0
  · rw [if_pos hj, Finset.sdiff_empty, bRd_duties, SparseCore.bigSep_image_of_injOn (fun a _ b _ e => Fin.ext e)]
    refine BI.Entails.trans (BI.bigSep_mono fun n _ => (show (_ : sProp 𝕄) ⊢ (_ : sProp 𝕄) from Entails.of_eq ?_)) (rows_join d A B (cV L))
    show bPay A B (bcell d (cV L) (jV L)) n.val = _
    unfold bPay; dsimp only
    rw [if_pos ⟨hc, hj⟩]
    exact congrArg (rowPts d A B (cV L)) (Fin.ext (Nat.mod_eq_of_lt n.isLt))
  · rw [if_neg hj]
    exact fun _ _ => trivial

end Cert.Proof.KI
end
-- ==== Proof.Ideal.Shape.lean ====
module

public import proofs.«01_k».proof.Defs
public import Idealize.ShloMosaic.Lib.SparseCore.Ops
public import Idealize.ShloMosaic.Lib.Tactic
public import proofs.«01_k».proof.Proof.Gen.KernelIdeal
public import proofs.«01_k».proof.Proof.Ideal.Body

@[expose] public section

noncomputable section

namespace Cert.Proof.KI

open Cert.KernelIdeal Cert.KernelIdeal.Gen

open Idealize.ShloMosaic Idealize.SL.Sem

variable {F : FTy → Type} [FloatOps F] [Named F]

set_option maxRecDepth 1000000
set_option maxHeartbeats 0
/-- The printed body is the tile's program. -/
theorem body_eq (i : grid0.Coords) (flat : Memref sig .scVector .hbm S37785609 .f32) (hflat : flat.IsWhole) (base : Memref sig .scVector .hbm S2048 .i32) (hbase : base.IsWhole)
    (out : Memref sig .scVector .hbm S16 .f32) (hout : out.IsWhole)
    (ms : Fin 16 → Memref sig .scVector .vmem S128 .i32) (hms : ∀ k, (ms k).IsWhole) (val : Memref sig .scVector .vmem S2048 .f32) (hval : val.IsWhole)
    (vec : Memref sig .scVector .vmem S16 .f32) (hvec : vec.IsWhole) (part : Memref sig .scVector .vmem S16x16 .f32) (hpart : part.IsWhole)
    (stage : Memref sig .scVector .shared S16x16 .f32) (hstage : stage.IsWhole) (s : DmaSems sig S_) (ss : Fin 16 → DmaSems sig S_)
    (s16 s17 s18 : DmaSems sig S_) :
    cc0__sc_loss_body (F := F) i flat hflat base hbase out hout (ms 0) (hms 0) (ms 1) (hms 1) (ms 2) (hms 2) (ms 3) (hms 3) (ms 4) (hms 4) (ms 5) (hms 5) (ms 6) (hms 6) (ms 7) (hms 7) (ms 8) (hms 8) (ms 9) (hms 9) (ms 10) (hms 10) (ms 11) (hms 11) (ms 12) (hms 12) (ms 13) (hms 13) (ms 14) (hms 14) (ms 15) (hms 15) val hval vec hvec part hpart stage hstage s (ss 0) (ss 1) (ss 2) (ss 3) (ss 4) (ss 5) (ss 6) (ss 7) (ss 8) (ss 9) (ss 10) (ss 11) (ss 12) (ss 13) (ss 14) (ss 15) s16 s17 s18 =
      tileProg i flat base out hout ms hms val vec hvec part hpart stage hstage s ss s16 s17 s18 := rfl

end Cert.Proof.KI
end
-- ==== Proof.Ideal.TileBody.lean ====
module

public import proofs.«01_k».proof.Proof.Ideal.Barrier
public import proofs.«01_k».proof.Proof.Ideal.Shape

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (d : Dev nD) (L : grid0.Coords)

variable (A : Dev nD → S37785609.Idx → F .f32) (B : Dev nD → S2048.Idx → BitVec 32)

/-! ## A tile, from its start to its end -/

/-- Tile `i`'s share of what every tile of SparseCore 0 reads. -/
abbrev shareOf (i : Fin 16) : PosShare TreeShare := pieceOf fullShare 16 (by decide) i

/-- What a tile starts with. -/
def tileGo (c : Fin τ.nSC) (i : Fin 16) : sProp 𝕄 :=
  if c.val = 0 then iprop(given d A B (shareOf i) ∗ (∃ f, stRow d c i f) ∗ if i.val = 0 then iprop(∃ f, ouLoc d ↦{fullShare} f) else iprop(emp)) else iprop(emp)

/-- What a tile ends with. -/
def tileTd (c : Fin τ.nSC) (i : Fin 16) : sProp 𝕄 :=
  if c.val = 0 then iprop(given d A B (shareOf i) ∗ ended d A B i c) else iprop(emp)

/-- What a tile has when it comes to the barrier, and after it. -/
def mid (c : Fin τ.nSC) (i : Fin 16) : sProp 𝕄 :=
  if c.val = 0 then iprop(given d A B (shareOf i) ∗ if i.val = 0 then iprop(∃ f, ouLoc d ↦{fullShare} f) else iprop(emp)) else iprop(emp)

theorem wp_before (hB : InRange B) (O : CellTallies nD τ sig (HIx 1)) (W : Waits sig (HIx 1)) :
    iprop(Transfers.MayWaits (thr d L) (default : HIx 1) O ∗ tileGo d A B (cV L) (jL L) ∗ mem (F := F) d L ∗ sems (F := F) d L ∗ owes (thr d L) O W)
      ⊢ twp d L (first L) fun _ =>
        iprop(mid d A B (cV L) (jL L) ∗ (bigSep Finset.univ fun j : Fin (grid0.bound 1) => (bRd A B).payload (bcell d (cV L) (j.castLE hsub0)) 0 (jV L).val)
          ∗ mem (F := F) d L ∗ sems (F := F) d L ∗ ∃ W', ⌜∀ p ∈ W', p ∈ W ∨ p.2 = none⌝ ∗ owes (thr d L) O W') := by
  unfold tileGo mid
  by_cases hc : (L 0).val = 0
  · rw [if_pos (show (cV L).val = 0 from hc), if_pos (show (cV L).val = 0 from hc)]
    iintro ⟨#Hmw, ⟨Hg, Hr, Ho⟩, Hm, Hs, HO⟩
    ihave Hw := (wp_first d L A B hB hc (shareOf (jL L)) O W) $$ [Hg Hr Hm Hs HO]
    · isplitr; · iexact Hmw
      isplitl [Hg]; · iexact Hg
      isplitl [Hm]; · iexact Hm
      isplitl [Hs]; · iexact Hs
      isplitl [Hr]; · iexact Hr
      iexact HO
    iapply (wp_wand frame _ _) $$ Hw
    iintro %_ ⟨Hg, Hm, Hs, Hr, HO⟩
    isplitl [Hg Ho]
    · isplitl [Hg]
      · iexact Hg
      · iexact Ho
    isplitl [Hr]
    · iapply (pays_intro d L A B hc)
      unfold rowPts
      iexact Hr
    isplitl [Hm]; · iexact Hm
    isplitl [Hs]; · iexact Hs
    iexact HO
  · rw [if_neg (show ¬ (cV L).val = 0 from hc), if_neg (show ¬ (cV L).val = 0 from hc)]
    have h1 : ¬ k0_cond1 L = 1#1 := fun h => hc ((cond1 L).mp h).1
    unfold first
    rw [dif_neg h1]
    iintro ⟨-, -, Hm, Hs, HO⟩
    iapply (le_wp_ret frame _ _ PUnit.unit _)
    isplitr; · iempintro
    isplitr
    · iapply (pays_intro' d L A B hc)
      iempintro
    isplitl [Hm]; · iexact Hm
    isplitl [Hs]; · iexact Hs
    iexists W
    isplitr
    · ipureintro
      exact fun p hp => .inl hp
    · iexact HO

/-- What tile 0 finishes from: the out array, and the table the barrier gave it. -/
theorem tofinish_of (j : Fin 16) (c : Fin τ.nSC) :
    iprop((if j.val = 0 then iprop(∃ f, ouLoc d ↦{fullShare} f) else iprop(emp)) ∗ gathered d A B j c) ⊢ (tofinish d A B j c : sProp 𝕄) := by
  unfold gathered tofinish
  by_cases hj : j.val = 0
  · rw [if_pos hj, if_pos hj, if_pos hj]
  · rw [if_neg hj, if_neg hj, if_neg hj]
    exact sep_elim_left

theorem wp_after (O : CellTallies nD τ sig (HIx 1)) (W : Waits sig (HIx 1)) :
    iprop(Transfers.MayWaits (thr d L) (default : HIx 1) O ∗ mid d A B (cV L) (jL L)
        ∗ (bigSep ((bRd A B).duties (bcell d (cV L) (jV L)) 0 \ ∅) fun n => (bRd A B).payload (bcell d (cV L) (jV L)) 0 n)
        ∗ mem (F := F) d L ∗ sems (F := F) d L ∗ owes (thr d L) O W)
      ⊢ twp d L (last L) fun _ =>
        iprop(tileTd d A B (cV L) (jL L) ∗ mem (F := F) d L ∗ sems (F := F) d L ∗ ∃ W', ⌜∀ p ∈ W', p ∈ W ∨ p.2 = none⌝ ∗ owes (thr d L) O W') := by
  unfold mid tileTd
  by_cases hc : (L 0).val = 0
  · rw [if_pos (show (cV L).val = 0 from hc), if_pos (show (cV L).val = 0 from hc)]
    iintro ⟨#Hmw, ⟨Hg, Ho⟩, Hp, Hm, Hs, HO⟩
    ihave Hp := (pays_elim d L A B hc) $$ Hp
    ihave Hw := (wp_last d L A B hc O W) $$ [Ho Hp Hm Hs HO]
    · isplitr; · iexact Hmw
      isplitl [Hm]; · iexact Hm
      isplitl [Hs]; · iexact Hs
      isplitl [Ho Hp]
      · iapply (tofinish_of d A B (jL L) (cV L))
        isplitl [Ho]
        · iexact Ho
        · iexact Hp
      iexact HO
    iapply (wp_wand frame _ _) $$ Hw
    iintro %_ ⟨Hm, Hs, He, HO⟩
    isplitl [Hg He]
    · isplitl [Hg]
      · iexact Hg
      · iexact He
    isplitl [Hm]; · iexact Hm
    isplitl [Hs]; · iexact Hs
    iexact HO
  · rw [if_neg (show ¬ (cV L).val = 0 from hc), if_neg (show ¬ (cV L).val = 0 from hc)]
    have h1 : ¬ k0_cond2 L = 1#1 := fun h => hc ((cond2 L).mp h).1
    unfold last
    rw [dif_neg h1]
    iintro ⟨-, -, -, Hm, Hs, HO⟩
    iapply (le_wp_ret frame _ _ PUnit.unit _)
    isplitr; · iempintro
    isplitl [Hm]; · iexact Hm
    isplitl [Hs]; · iexact Hs
    iexists W
    isplitr
    · ipureintro
      exact fun p hp => .inl hp
    · iexact HO

/-- A tile's body: its sums into its row, the barrier, and on tile 0 the result. -/
theorem tile_body (hF : (K (F := F)).Facts) (hB : InRange B) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit A B d (cV L) (jV L) ∗ tileGo d A B (cV L) (jL L)
        ∗ scopedBufs (thr d L) ∗ scopedSems0 (thr d L) ∗ owes (thr d L) (O + oxV d (cV L)) W)
      ⊢ twp d L (tileProg L flM bsM ouM (Memref.isWhole_whole _) lsM lsM_whole vaM veM (Memref.isWhole_whole _) paM (Memref.isWhole_whole _)
          stM (Memref.isWhole_whole _) cc0_scratch20 lsS cc0_scoped16 cc0_scoped17 cc0_scoped18) fun _ =>
        iprop((tileTd d A B (cV L) (jL L) ∗ semVal (bcell d (cV L) (jV L)) 0) ∗ scopedBufs (thr d L) ∗ scopedSems0 (thr d L)
            ∗ ∃ W', ⌜∀ p ∈ W', p ∈ W ∨ p.2 = none ∨ p.2 = some (0 : Fin 1)⌝ ∗ owes (thr d L) O W') := by
  rw [tileProg_eq, (K (F := F)).scopedBufs_V hF d (cV L) (jV L), SparseCore.Cfg.scopedSems0_V (Val := Elt F) d (cV L) (jV L), ownSems_eq, ownBufs_eq]
  unfold bkit
  rw [twp, wp_bind]
  iintro ⟨#Hlv, ⟨⟨%κ, #Hinv⟩, Htoks, #Hrch, Hat, Hcred⟩, Hgo, ⟨Hm, Hmr⟩, ⟨Hs, Hsr⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (thr d L) (default : HIx 1) (O + oxV d (cV L)) from
    (K (F := F)).mayWaits_none (thr := thr d L) hO') $$ Hlv
  ihave Hmw2 := (show levAts (K (F := F)).L (K (F := F)).lev ⊢ Transfers.MayWaits (thr d L) (default : HIx 1) O from
    (K (F := F)).mayWaits_none (thr := thr d L) hO) $$ Hlv
  ihave Hw := (wp_before d L A B hB (O + oxV d (cV L)) W) $$ [Hmw1 Hgo Hm Hs HO]
  · isplitl [Hmw1]; · iexact Hmw1
    isplitl [Hgo]; · iexact Hgo
    isplitl [Hm]; · iexact Hm
    isplitl [Hs]; · iexact Hs
    iexact HO
  iapply (wp_wand frame _ _) $$ Hw
  iintro %_ ⟨Hmid, Hpays, Hm, Hs, ⟨%W₁, %hW₁, HO⟩⟩
  iapply (SparseCore.wp_subcoreBarrier 𝒱₀ none EB (bRd A B) d (sc := cV L) (i := jV L) sc_bar0 (grid0.bound 1) hsub0 (L 1) rfl κ (fun _ => 0) (jV L).val
      (fun j => bRd_mem A B d _ _ _) (fun _ => rfl) (bRd_expect A B d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := thr d L) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from bar_ne_go)]; exact le_rfl)
      (fun g ι hg => lt_of_lt_of_le (by decide) (hOlev g ι hg)))
    iexact Hlv
  iintro ⟨HO, Hat, -, Hgot⟩
  imod (Rounds.cell_close EB (bRd A B) (g := bcell d (cV L) (jV L)) (Set.mem_univ (κ _)) (fun h => h) (bRd_later A B _)) $$ [Hat] with Hbar
  · isplitr
    · iapply (SparseCore.ent (bigSep_elim (Φ := fun j : Fin (grid0.bound 1) =>
        (cellInv EB (bRd A B) (κ (bcell d (cV L) (j.castLE hsub0))) (bcell d (cV L) (j.castLE hsub0)) : sProp 𝕄)) (Finset.mem_univ (L 1)))); iexact Hinv
    · iexact Hat
  rw [wp_bind]
  ihave Hw := (wp_after d L A B O _) $$ [Hmw2 Hmid Hgot Hm Hs HO]
  · isplitl [Hmw2]; · iexact Hmw2
    isplitl [Hmid]; · iexact Hmid
    isplitl [Hgot]; · iexact Hgot
    isplitl [Hm]; · iexact Hm
    isplitl [Hs]; · iexact Hs
    iexact HO
  iapply (wp_wand frame _ _) $$ Hw
  iintro %_ ⟨Htd, Hm, Hs, ⟨%W₂, %hW₂, HO⟩⟩
  iapply (le_wp_ret frame _ _ PUnit.unit _)
  isplitl [Htd Hbar]
  · isplitl [Htd]
    · iexact Htd
    · iexact Hbar
  isplitl [Hm Hmr]
  · isplitl [Hm]
    · iexact Hm
    · iexact Hmr
  isplitl [Hs Hsr]
  · isplitl [Hs]
    · iexact Hs
    · iexact Hsr
  iexists W₂; isplitr
  swap; · iexact HO
  ipureintro; intro p hp
  rcases hW₂ p hp with hp | hp
  · rcases Finset.mem_insert.mp hp with hp | hp
    · exact .inr (.inr (hp ▸ rfl))
    · rcases hW₁ p hp with hp | hp
      · exact .inl hp
      · exact .inr (.inl hp)
  · exact .inr (.inl hp)

end Cert.Proof.KI
end
-- ==== Proof.Ideal.Pays.lean ====
module

public import proofs.«01_k».proof.Proof.Ideal.TileBody
public import proofs.«01_k».proof.Proof.Ideal.Shape

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (d : Dev nD) (L : grid0.Coords)

variable (A : Dev nD → S37785609.Idx → F .f32) (B : Dev nD → S2048.Idx → BitVec 32)

/-! ## What the one call's handshakes carry -/

instance ended_storable (j : Fin 16) (c : Fin τ.nSC) : BI.Storable (upEmb : UEmb _ 𝕄) (ended d A B j c) := by
  unfold ended; split <;> infer_instance
instance tileGo_storable (c : Fin τ.nSC) (i : Fin 16) : BI.Storable (upEmb : UEmb _ 𝕄) (tileGo d A B c i) := by
  unfold tileGo given
  split
  · haveI : BI.Storable (upEmb : UEmb _ 𝕄) (if i.val = 0 then iprop(∃ f, ouLoc d ↦{fullShare} f) else iprop(emp) : sProp 𝕄) := by
      split <;> infer_instance
    infer_instance
  · infer_instance
instance tileTd_storable (c : Fin τ.nSC) (i : Fin 16) : BI.Storable (upEmb : UEmb _ 𝕄) (tileTd d A B c i) := by
  unfold tileTd given; split <;> infer_instance

/-- What SparseCore `c` takes: SparseCore 0 the flat scores, the words, and the out array. -/
def coreSt (c : Fin τ.nSC) : sProp 𝕄 :=
  if c.val = 0 then iprop(given d A B fullShare ∗ ∃ f, ouLoc d ↦{fullShare} f) else iprop(emp)
/-- What it brings back: the same, the out array at the result. -/
def coreDn (c : Fin τ.nSC) : sProp 𝕄 :=
  if c.val = 0 then iprop(given d A B fullShare ∗ ouLoc d ↦{fullShare} resultOf (table d A B)) else iprop(emp)
instance coreSt_storable (c : Fin τ.nSC) : BI.Storable (upEmb : UEmb _ 𝕄) (coreSt d A B c) := by
  unfold coreSt given; split <;> infer_instance
instance coreDn_storable (c : Fin τ.nSC) : BI.Storable (upEmb : UEmb _ 𝕄) (coreDn d A B c) := by
  unfold coreDn given; split <;> infer_instance

/-- The barrier semaphores of SparseCore `c`, at zero. -/
abbrev bars (c : Fin τ.nSC) : sProp 𝕄 := bigSep Finset.univ fun i : Fin ((K (F := F)).nSub 0) => semVal (bcell d c ((K (F := F)).sub 0 i)) 0

set_option backward.proofsInPublic true in
/-- The call: SparseCore 0 takes the arrays and deals its tiles their shares, a row of its table each, tile 0 the out
    array; each tile owes its arrivals at the barrier and brings its barrier semaphore back, closed, at zero. -/
def P : (K (F := F)).Pay (nD := nD) (Val := Elt F) (Name := ℕ) (U := UU) where
  st := fun q d c => match q with | 0 => coreSt d A B (coreOf c)
  dn := fun q d c => match q with | 0 => iprop(coreDn d A B (coreOf c) ∗ bars d (coreOf c))
  go := fun q d c i => match q with | 0 => tileGo d A B (coreOf c) (Fin.cast nSub_zero i)
  td := fun q d c i => match q with
    | 0 => iprop(tileTd d A B (coreOf c) (Fin.cast nSub_zero i) ∗ semVal (bcell d (coreOf c) ((K (F := F)).sub 0 i)) 0)
  x := fun _ thr => match thr with
    | (d, .scVector c i) => bkit A B d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_pos h
      rw [(K (F := F)).lev_V_reg d c (j.castLE hsub0) (show (sc_bar0 : Sem sig) ≠ (K (F := F)).go from bar_ne_go)]
      exact ⟨le_rfl, by decide⟩
  ox_tc := fun _ _ => rfl
  ox_sc := fun _ _ _ h => absurd rfl h
  ox_vc := by
    intro q d c i _
    obtain rfl : q = 0 := Subsingleton.elim _ _
    exact ⟨rfl, c.isLt, i.isLt⟩

instance P_storable : (P A B).IsStorable where
  st q d c := match q with | 0 => (inferInstance : BI.Storable (upEmb : UEmb _ 𝕄) (coreSt d A B (coreOf c)))
  dn q d c := match q with | 0 => (inferInstance : BI.Storable (upEmb : UEmb _ 𝕄) iprop(coreDn d A B (coreOf c) ∗ bars d (coreOf c)))
  go q d c i := match q with | 0 => (inferInstance : BI.Storable (upEmb : UEmb _ 𝕄) (tileGo d A B (coreOf c) (Fin.cast nSub_zero i)))
  td q d c i := match q with
    | 0 => (inferInstance : BI.Storable (upEmb : UEmb _ 𝕄)
        iprop(tileTd d A B (coreOf c) (Fin.cast nSub_zero i) ∗ semVal (bcell d (coreOf c) ((K (F := F)).sub 0 i)) 0))

/-! ## The tiles' obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_body (c : Fin τ.nSC) (s : Fin τ.nSub) :
    defs₀ (F := F) (.scVector c s) 0 ()
      = SparseCore.onTile hcore0 hsub0 (fun c s => cc0__sc_loss_body (coordsV c s) (Memref.whole main_v14_scv) (Memref.isWhole_whole _) (Memref.whole main_v13_scv) (Memref.isWhole_whole _) (Memref.whole main_v15_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) cc0_scratch20 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18)
          ⟨⟩ c s := rfl

/-- What a tile runs, at its coordinates. -/
theorem tile_body_eq (L : grid0.Coords) : cc0__sc_loss_body L (F := F) (Memref.whole main_v14_scv) (Memref.isWhole_whole _) (Memref.whole main_v13_scv) (Memref.isWhole_whole _) (Memref.whole main_v15_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) cc0_scratch20 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18
    = tileProg L flM bsM ouM (Memref.isWhole_whole _) lsM lsM_whole vaM veM (Memref.isWhole_whole _) paM (Memref.isWhole_whole _) stM
        (Memref.isWhole_whole _) cc0_scratch20 lsS cc0_scoped16 cc0_scoped17 cc0_scoped18 :=
  body_eq L flM (Memref.isWhole_whole _) bsM (Memref.isWhole_whole _) ouM (Memref.isWhole_whole _) lsM lsM_whole vaM (Memref.isWhole_whole _)
    veM (Memref.isWhole_whole _) paM (Memref.isWhole_whole _) stM (Memref.isWhole_whole _) cc0_scratch20 lsS cc0_scoped16 cc0_scoped17 cc0_scoped18

set_option maxRecDepth 16384 in
theorem tileObl (hF : (K (F := F)).Facts) (hB : InRange B) : (K (F := F)).TileObl (D (F := F)) 𝒱 (P A B) v₀ 0 := by
  intro d c i O W hO hOlev _
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_body]; simp only [SparseCore.onTile, hci, and_self, ↓reduceDIte]
  rw [tile_body_eq]
  exact tile_body d (coordsV ⟨_, hci.1⟩ ⟨_, hci.2⟩) A B hF hB O W hO hOlev

/-! ## The call's operands dealt to the tiles, and gathered -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

abbrev stRef (c : Fin τ.nSC) : DevRef τ sig := (stLoc d c).2

/-- The table is among the sequencer's own buffers. -/
theorem ownBufs_S (c : Fin τ.nSC) :
    (ownBufs (S d c) : sProp 𝕄)
      = iprop((∃ f, stLoc d c ↦{fullShare} f) ∗ bigSep ((ownRefs (τ := τ) (.scScalar c)).erase (stRef d c)) fun b => iprop(∃ f, ((d, b) : Loc nD τ sig) ↦{fullShare} f)) := by
  unfold SparseCore.Cfg.ownBufs
  exact SparseCore.bigSep_erase' ((mem_ownRefs (p := Proc.scScalar c) (b := stRef d c)).mpr rfl)

theorem whole_shares (ℓ : Loc nD τ sig) (f : Buf (Elt F) ℓ) :
    (ℓ ↦{fullShare} f : sProp 𝕄) = bigSep Finset.univ fun i : Fin 16 => ℓ ↦{shareOf i} f :=
  pointsTo_piecesOf _ f (o := 16) (by decide) fullShare

/-- The arrays as the tiles' shares. -/
theorem given_shares : (given d A B fullShare : sProp 𝕄) = bigSep Finset.univ fun i : Fin 16 => given d A B (shareOf i) := by
  unfold given
  rw [bigSep_sep', whole_shares (flLoc d), whole_shares (bsLoc d)]

/-- What only tile 0 has, as a family over the tiles. -/
theorem only_zero (R : sProp 𝕄) : (bigSep Finset.univ fun i : Fin 16 => if i.val = 0 then R else iprop(emp)) = R := by
  rw [SparseCore.bigSep_erase' (Finset.mem_univ (0 : Fin 16)),
    show (bigSep (Finset.univ.erase (0 : Fin 16)) fun i : Fin 16 => if i.val = 0 then R else iprop(emp))
      = bigSep (Finset.univ.erase (0 : Fin 16)) fun _ => (iprop(emp) : sProp 𝕄) from
      bigSep_congr fun j hj => if_neg fun h => (Finset.mem_erase.mp hj).1 (Fin.ext h), emps, if_pos (show (0 : Fin 16).val = 0 from rfl)]
  exact Entails.antisymm sep_emp.1 sep_emp.2

theorem rows_any (c : Fin τ.nSC) (f : Buf (Elt F) (stLoc d c)) :
    (stLoc d c ↦{fullShare} f : sProp 𝕄) ⊢ bigSep Finset.univ fun n : Fin 16 => iprop(∃ f, stRow d c n f) := by
  rw [rows_split d c f]
  exact bigSep_mono fun n _ => (show (_ : sProp 𝕄) ⊢ (_ : sProp 𝕄) by iintro H; iexists f; iexact H)

theorem ended_all (c : Fin τ.nSC) : (bigSep Finset.univ fun i : Fin 16 => ended d A B i c)
    = (iprop((ouLoc d ↦{fullShare} resultOf (table d A B)) ∗ ∃ f, stLoc d c ↦{fullShare} f) : sProp 𝕄) := only_zero _

/-- SparseCore 0's part dealt to its tiles. -/
theorem deal (c : Fin τ.nSC) : iprop(coreSt d A B c ∗ ownBufs (S d c))
    ⊢ (iprop((bigSep Finset.univ fun i : Fin 16 => tileGo d A B c i)
        ∗ ((bigSep Finset.univ fun i : Fin 16 => tileTd d A B c i) -∗ iprop(coreDn d A B c ∗ ownBufs (S d c)))) : sProp 𝕄) := by
  unfold coreSt tileGo tileTd coreDn
  by_cases hc : c.val = 0
  · simp only [if_pos hc]
    rw [bigSep_sep', bigSep_sep', bigSep_sep', ← given_shares, only_zero, ownBufs_S]
    iintro ⟨⟨Hg, Ho⟩, ⟨%f, Hst⟩, Hrest⟩
    isplitl [Hg Ho Hst]
    · isplitl [Hg]; · iexact Hg
      isplitl [Hst]
      · iapply (rows_any d c f) $$ Hst
      · iexact Ho
    iintro ⟨Hg, He⟩
    ihave He := (Entails.of_eq (ended_all d A B c)) $$ He
    icases He with ⟨Ho, Hst⟩
    isplitl [Hg Ho]
    · isplitl [Hg]
      · iexact Hg
      · iexact Ho
    isplitl [Hst]
    · iexact Hst
    · iexact Hrest
  · simp only [if_neg hc]
    rw [emps]
    iintro ⟨-, H⟩
    isplitr
    · iempintro
    iintro -
    isplitr
    · iempintro
    · iexact H

theorem vecSplit : (K (F := F)).VecSplit (P A B) 0 := by
  intro d c
  show iprop(coreSt d A B (coreOf c) ∗ ownBufs (S d (coreOf c))) ⊢ |={Set.univ}=> iprop(
      (bigSep Finset.univ fun i : Fin ((K (F := F)).nSub 0) => tileGo d A B (coreOf c) (Fin.cast nSub_zero i))
      ∗ ((bigSep Finset.univ fun i : Fin ((K (F := F)).nSub 0) => iprop(tileTd d A B (coreOf c) (Fin.cast nSub_zero i)
            ∗ semVal (bcell d (coreOf c) ((K (F := F)).sub 0 i)) 0))
          -∗ iprop(iprop(coreDn d A B (coreOf c) ∗ bars d (coreOf c)) ∗ ownBufs (S d (coreOf c)))))
  rw [bigSep_sep' _ (fun i : Fin ((K (F := F)).nSub 0) => tileTd d A B (coreOf c) (Fin.cast nSub_zero i)),
    bigSep_tasks (F := F) (fun i => tileGo d A B (coreOf c) i), bigSep_tasks (F := F) (fun i => tileTd d A B (coreOf c) i)]
  iintro H
  ihave H := (deal d A B (coreOf c)) $$ H
  icases H with ⟨Hgo, Hk⟩
  imodintro
  isplitl [Hgo]; · iexact Hgo
  iintro ⟨Htd, Hbars⟩
  ihave H := Hk $$ Htd
  icases H with ⟨Hdn, Hown⟩
  isplitl [Hdn Hbars]
  · isplitl [Hdn]
    · iexact Hdn
    · iexact Hbars
  · iexact Hown

end Cert.Proof.KI
end
-- ==== Proof.Ideal.Deal.lean ====
module

public import proofs.«01_k».proof.Proof.Ideal.Pays

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (d : Dev nD) (L : grid0.Coords)

variable (A : Dev nD → S37785609.Idx → F .f32) (B : Dev nD → S2048.Idx → BitVec 32)

/-! ## The launch's ghost state -/

/-- A tile of the mesh: device, SparseCore, vector subcore. -/
abbrev Spot : Type := Dev nD × Fin τ.nSC × Fin τ.nSub
abbrev cellAt (x : Spot) : GSem nD τ sig := bcell x.1 x.2.1 x.2.2

theorem cellAt_injective : Function.Injective (cellAt : Spot → GSem nD τ sig) := fun a b e => by
  obtain ⟨h1, h2⟩ := Prod.mk.inj (Prod.mk.inj e).1
  obtain ⟨h3, h4⟩ := Proc.scVector.inj h2
  exact Prod.ext h1 (Prod.ext h3 h4)

/-- Every tile's barrier cell. -/
def allCells : Finset (GSem nD τ sig) := Finset.univ.image cellAt
/-- A tile's tokens: one in every cell of its SparseCore. -/
def tokOf (x : Spot × Fin (grid0.bound 1)) : GSem nD τ sig × ℕ × ℕ := (bcell x.1.1 x.1.2.1 (x.2.castLE hsub0), 0, x.1.2.2.val)
def allToks : Finset (GSem nD τ sig × ℕ × ℕ) := Finset.univ.image tokOf

theorem tokOf_injective : Function.Injective tokOf := by
  rintro ⟨⟨d, c, i⟩, j⟩ ⟨⟨d', c', i'⟩, j'⟩ e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  have hi' : i = i' := Fin.ext e2
  subst hj' hi'
  rfl

def u₀ : UU := (initOf (K (F := F)).hsCells (K (F := F)).hsToks, (initOf allCells allToks, 1))

theorem ownU_parts (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

theorem over_cells (Φ : GSem nD τ sig → sProp 𝕄) : bigSep allCells Φ = bigSep Finset.univ fun x : Spot => Φ (cellAt x) := by
  unfold allCells
  exact SparseCore.bigSep_image_of_injOn (fun a _ b _ e => cellAt_injective e) Φ

/-- The barrier semaphores at zero, among the free semaphores the launch hands over. -/
theorem zeroed : ((K (F := F)).freeOn (· ∈ allCells) : sProp 𝕄) ⊢ bigSep allCells fun g => semVal g 0 := by
  rw [over_cells]
  unfold SparseCore.Cfg.freeOn
  refine sep_elim_right.trans (bigSep_mono fun x _ => ?_)
  exact bigSep_elim (Φ := fun sm : SemLoc sig => (semVal (V x.1 x.2.1 x.2.2, sm) 0 : sProp 𝕄)) (Finset.mem_filter.mpr
    ⟨Finset.mem_erase.mpr ⟨fun h => bar_ne_go (SemLoc.reg.inj h), Finset.mem_filter.mpr ⟨Finset.mem_univ _, by decide⟩⟩,
      Finset.mem_image_of_mem cellAt (Finset.mem_univ x)⟩)

theorem opened : iprop((bigSep allCells fun g => (semVal g 0 : sProp 𝕄)) ∗ bigSep allCells fun g => roundState EB (bRd A B) g 0)
    ⊢ |={Set.univ}=> iprop(∃ κ : GSem nD τ sig → ℕ, bigSep allCells fun g => cellInv EB (bRd A B) (κ g) g) := by
  refine (Rounds.bodies_intro EB (bRd A B) allCells).trans ((inv_alloc_family allCells (Rounds.body EB (bRd A B)) ∅ (E := Set.univ)).trans ?_)
  iintro H
  imod H with ⟨%κ, -, Hinv⟩
  imodintro
  iexists κ
  iexact Hinv

theorem tally_sum (g : GSem nD τ sig) (ι : HIx 1) : ∀ n : ℕ, ∑ _ : Fin n, tallyAt g ι 1 = (tallyAt g ι n : CellTallies nD τ sig (HIx 1))
  | 0 => by rw [Finset.univ_eq_empty, Finset.sum_empty, tallyAt_zero]
  | n + 1 => by rw [Fin.sum_univ_castSucc, tally_sum g ι n, tallyAt_add]

/-- What tile `x` is credited: a unit from each tile of its SparseCore. -/
abbrev credit (x : Spot) : sProp 𝕄 := cred (tallyAt (cellAt x) (some 0) (grid0.bound 1))

/-- The debts' credit, per tile that owes, is per tile that is owed. -/
theorem credited : ((P A B).oxCred : sProp 𝕄) ⊢ bigSep Finset.univ fun x : Spot => credit (F := F) x := by
  unfold SparseCore.Cfg.Pay.oxCred
  rw [SparseCore.Cfg.bigSep_threads (fun thr : Thread nD τ => (cred ((P A B).oxFrom 0 thr) : sProp 𝕄))]
  refine sep_elim_right.trans (sep_elim_right.trans ?_)
  rw [BI.bigSep_univ_prod, BI.bigSep_univ_prod (fun x : Spot => credit (F := F) x)]
  refine bigSep_mono fun d _ => ?_
  rw [BI.bigSep_univ_prod, BI.bigSep_univ_prod (fun ci : Fin τ.nSC × Fin τ.nSub => credit (F := F) (d, ci))]
  refine bigSep_mono fun c _ => ?_
  have hox : ∀ i, (P A B).oxFrom 0 (V d c i) = oxV d c := fun i => by
    rw [show (0 : ℕ) = (0 : Fin 1).val from rfl, (P A B).oxFrom_step, (P A B).oxFrom_end _ (n := (0 : Fin 1).val + 1) le_rfl, add_zero]; rfl
  dsimp only
  simp only [hox]
  unfold oxV
  rw [SparseCore.Cfg.cred_finsum, bigSep_univ_comm]
  refine bigSep_mono fun j _ => ?_
  rw [← SparseCore.Cfg.cred_finsum, tally_sum]
  rfl

/-- A persistent assertion serves every conjunct. -/
theorem serve {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _))
      isplitr
      · iexact HR
      · iexact H1
    · iapply (ih fun i hi => h i (Finset.mem_insert_of_mem hi))
      isplitr
      · iexact HR
      · iexact H2

theorem over_toks : (bigSep allToks fun x => (dutyTok EB x.1 x.2.1 x.2.2 : sProp 𝕄))
    = bigSep Finset.univ fun x : Spot => bigSep Finset.univ fun j : Fin (grid0.bound 1) => dutyTok EB (bcell x.1 x.2.1 (j.castLE hsub0)) 0 x.2.2.val := by
  unfold allToks
  rw [SparseCore.bigSep_image_of_injOn (fun a _ b _ e => tokOf_injective e), BI.bigSep_univ_prod]
  rfl

/-- What all tiles know: every cell's invariant, and that it has reached round 0. -/
abbrev common : sProp 𝕄 :=
  iprop((∃ κ : GSem nD τ sig → ℕ, bigSep Finset.univ fun x : Spot => cellInv EB (bRd A B) (κ (cellAt x)) (cellAt x))
    ∗ bigSep Finset.univ fun x : Spot => reached EB (cellAt x) 0)
/-- What tile `x` alone gets. -/
abbrev alone (x : Spot) : sProp 𝕄 :=
  iprop(atPos EB (cellAt x) 0 ∅ 0
    ∗ (bigSep Finset.univ fun j : Fin (grid0.bound 1) => dutyTok EB (bcell x.1 x.2.1 (j.castLE hsub0)) 0 x.2.2.val)
    ∗ credit (F := F) x)

/-- Out of a persistent family over all tiles, the family over one SparseCore's. -/
theorem nearby {Φ : Spot → sProp 𝕄} [BI.Persistent (bigSep Finset.univ Φ)] (d : Dev nD) (c : Fin τ.nSC) :
    bigSep Finset.univ Φ ⊢ bigSep Finset.univ fun j : Fin (grid0.bound 1) => Φ (d, c, j.castLE hsub0) := by
  have h := serve (F := F) (R := bigSep Finset.univ Φ) (s := (Finset.univ : Finset (Fin (grid0.bound 1)))) (Φ := fun _ => iprop(emp))
    (Ψ := fun j => Φ (d, c, j.castLE hsub0)) fun j _ => sep_elim_left.trans (bigSep_elim (Finset.mem_univ (d, c, j.castLE hsub0)))
  rw [emps] at h
  iintro H
  iapply h
  isplitl [H]
  · iexact H
  · iempintro

theorem kit_of (x : Spot) : iprop(common A B ∗ alone x) ⊢ (bkit A B x.1 x.2.1 x.2.2 : sProp 𝕄) := by
  obtain ⟨d, c, i⟩ := x
  iintro ⟨⟨#Hinv, #Hr⟩, Hat, Htok, Hcred⟩
  unfold bkit
  isplitr
  · icases Hinv with ⟨%κ, Hinv⟩
    iexists κ
    iapply (nearby (F := F) (Φ := fun x : Spot => cellInv EB (bRd A B) (κ (cellAt x)) (cellAt x)) d c)
    iexact Hinv
  isplitl [Htok]; · iexact Htok
  isplitr
  · iapply (nearby (F := F) (Φ := fun x : Spot => reached EB (cellAt x) 0) d c)
    iexact Hr
  isplitl [Hat]
  · iexact Hat
  · iexact Hcred

theorem P_T (d : Dev nD) : (bigSep Finset.univ fun q : Fin 1 => (P A B).x q (SparseCore.T d)) = iprop(emp) := bigSep_univ_of_subsingleton (0 : Fin 1)
theorem P_S (d : Dev nD) (c : Fin τ.nSC) : (bigSep Finset.univ fun q : Fin 1 => (P A B).x q (S d c)) = iprop(emp) :=
  bigSep_univ_of_subsingleton (0 : Fin 1)
theorem P_V (d : Dev nD) (c : Fin τ.nSC) (i : Fin τ.nSub) : (bigSep Finset.univ fun q : Fin 1 => (P A B).x q (V d c i)) = bkit A B d c i :=
  bigSep_univ_of_subsingleton (0 : Fin 1)

theorem kits : iprop(common A B ∗ bigSep Finset.univ fun x : Spot => alone (F := F) x)
    ⊢ (bigSep Finset.univ fun thr : Thread nD τ => bigSep Finset.univ fun q : Fin 1 => (P A B).x q thr : sProp 𝕄) := by
  rw [SparseCore.Cfg.bigSep_threads (fun thr : Thread nD τ => bigSep Finset.univ fun q : Fin 1 => (P A B).x q thr)]
  simp only [P_T, P_S, P_V, emps]
  iintro H
  isplitr; · iempintro
  isplitr; · iempintro
  iapply (serve (R := common A B) (Φ := alone (F := F)) fun x _ => kit_of A B x)
  iexact H

theorem hu₀ : iprop(ownU (u₀ (F := F)) ∗ (P A B).oxCred ∗ (K (F := F)).freeOn (· ∈ allCells))
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P A B).x q thr) : sProp 𝕄) := by
  unfold u₀
  iintro ⟨Hu, Hcred, Hfree⟩
  ihave H := (ownU_parts _ _) $$ Hu
  icases H with ⟨HH, HB⟩
  imod (Rounds.fund EB (bRd A B) allCells allToks) $$ HB with ⟨Hst, #Hr, Hat, Htok⟩
  ihave Hsems := (zeroed (F := F)) $$ Hfree
  imod (opened A B) $$ [Hsems Hst] with ⟨%κ, #Hinv⟩
  · isplitl [Hsems] <;> iassumption
  ihave Hcred := (credited A B) $$ Hcred
  ihave Hinv' := (Entails.of_eq (over_cells fun g => cellInv EB (bRd A B) (κ g) g)) $$ Hinv
  ihave Hr' := (Entails.of_eq (over_cells (F := F) fun g => reached EB g 0)) $$ Hr
  ihave Hat := (Entails.of_eq (over_cells (F := F) fun g => atPos EB g 0 ∅ 0)) $$ Hat
  ihave Htok := (Entails.of_eq (over_toks (F := F))) $$ Htok
  imodintro
  isplitl [HH]; · iexact HH
  isplitr
  · rw [emps]; iempintro
  iapply (kits A B)
  isplitr
  · isplitl
    · iexists κ
      iexact Hinv'
    · iexact Hr'
  rw [bigSep_sep', bigSep_sep']
  isplitl [Hat]; · iexact Hat
  isplitl [Htok]
  · iexact Htok
  · iexact Hcred

end Cert.Proof.KI
end
-- ==== Proof.Ideal.Host.lean ====
module

public import proofs.«01_k».proof.Proof.Ideal.Deal
public import Idealize.ShloMosaic.Lib.StableHlo.Run
public import Idealize.ShloMosaic.Lib.Pipeline.Frame

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (d : Dev nD) (L : grid0.Coords)

open Idealize.ShloMosaic.StableHlo (after tcRefs)
open Idealize.ShloMosaic.Pipeline (ucRefs unscopedBufs_held sub_ucRefs)

/-! ## The host's line of operations -/

/-- The operations before the call: the words from the index arrays, the scores flattened. -/
def hostOps : List (HloOp τ sig (Elt F)) :=
  [ StableHlo.unary main_arg1 main_v0 ((extractStridedSlice S1024x1 ![0, 0] · slices_S1024x2_S1024x1_0_0) : (⟨S1024x2, .i32⟩ : BufTy).Contents (Elt F) → (⟨S1024x1, .i32⟩ : BufTy).Contents (Elt F)),
    StableHlo.reshape main_v0 main_v1 (rfl : (.i32 : EltTy) = .i32) shapeCasts_S1024x1_S1024,
    StableHlo.unary main_arg1 main_v2 ((extractStridedSlice S1024x1 ![0, 1] · slices_S1024x2_S1024x1_0_1) : (⟨S1024x2, .i32⟩ : BufTy).Contents (Elt F) → (⟨S1024x1, .i32⟩ : BufTy).Contents (Elt F)),
    StableHlo.reshape main_v2 main_v3 (rfl : (.i32 : EltTy) = .i32) shapeCasts_S1024x1_S1024,
    StableHlo.nullary main_c (constantI S_ 32 2049#32),
    StableHlo.unary main_c main_v4 (broadcastInDim S1024 ![] bcast_S_S1024 : (⟨S_, .i32⟩ : BufTy).Contents (Elt F) → (⟨S1024, .i32⟩ : BufTy).Contents (Elt F)),
    StableHlo.binary main_v1 main_v4 main_v5 (muli : (⟨S1024, .i32⟩ : BufTy).Contents (Elt F) → (⟨S1024, .i32⟩ : BufTy).Contents (Elt F) → (⟨S1024, .i32⟩ : BufTy).Contents (Elt F)),
    StableHlo.binary main_v5 main_v3 main_v6 (addi : (⟨S1024, .i32⟩ : BufTy).Contents (Elt F) → (⟨S1024, .i32⟩ : BufTy).Contents (Elt F) → (⟨S1024, .i32⟩ : BufTy).Contents (Elt F)),
    StableHlo.nullary main_c_0 (constantI S_ 32 2049#32),
    StableHlo.unary main_c_0 main_v7 (broadcastInDim S512 ![] bcast_S_S512 : (⟨S_, .i32⟩ : BufTy).Contents (Elt F) → (⟨S512, .i32⟩ : BufTy).Contents (Elt F)),
    StableHlo.binary main_arg2 main_v7 main_v8 (muli : (⟨S512, .i32⟩ : BufTy).Contents (Elt F) → (⟨S512, .i32⟩ : BufTy).Contents (Elt F) → (⟨S512, .i32⟩ : BufTy).Contents (Elt F)),
    StableHlo.nullary main_c_1 (constantI S_ 32 2048#32),
    StableHlo.unary main_c_1 main_v9 (broadcastInDim S512 ![] bcast_S_S512 : (⟨S_, .i32⟩ : BufTy).Contents (Elt F) → (⟨S512, .i32⟩ : BufTy).Contents (Elt F)),
    StableHlo.binary main_v8 main_v9 main_v10 (addi : (⟨S512, .i32⟩ : BufTy).Contents (Elt F) → (⟨S512, .i32⟩ : BufTy).Contents (Elt F) → (⟨S512, .i32⟩ : BufTy).Contents (Elt F)),
    StableHlo.nullary main_c_2 (constantI S_ 32 4196352#32),
    StableHlo.unary main_c_2 main_v11 (broadcastInDim S512 ![] bcast_S_S512 : (⟨S_, .i32⟩ : BufTy).Contents (Elt F) → (⟨S512, .i32⟩ : BufTy).Contents (Elt F)),
    StableHlo.binary main_v11 main_arg3 main_v12 (addi : (⟨S512, .i32⟩ : BufTy).Contents (Elt F) → (⟨S512, .i32⟩ : BufTy).Contents (Elt F) → (⟨S512, .i32⟩ : BufTy).Contents (Elt F)),
    StableHlo.nary ![main_v6, main_v10, main_v12] main_v13 (fun u => (concatenate S2048 0 [⟨S1024, (u 0 : (⟨S1024, .i32⟩ : BufTy).Contents (Elt F))⟩, ⟨S512, (u 1 : (⟨S512, .i32⟩ : BufTy).Contents (Elt F))⟩, ⟨S512, (u 2 : (⟨S512, .i32⟩ : BufTy).Contents (Elt F))⟩] concatenates_S1024_S512_S512_S2048_d0 : (⟨S2048, .i32⟩ : BufTy).Contents (Elt F))),
    StableHlo.reshape main_arg0 main_v14 (rfl : (.f32 : EltTy) = .f32) shapeCasts_S9x2049x2049_S37785609 ]
/-- The operation after it: the first ten lanes of the out array. -/
abbrev opOut : HloOp τ sig (Elt F) := StableHlo.unary main_v15 main_v16 ((extractStridedSlice S10 ![0] · slices_S16_S10_0) : (⟨S16, .f32⟩ : BufTy).Contents (Elt F) → (⟨S10, .f32⟩ : BufTy).Contents (Elt F))

set_option maxRecDepth 8192 in
theorem main_split (d : Dev nD) : main (F := F) d
    = ((StableHlo.seq hostOps : Prog (TpuEff nD τ sig (Elt F) (SparseCore.Sig (Pipeline.Sig Λ₀ (Fin 0) fun p => (pcfgs (F := F) p).Adm) 1) .tc) PUnit)
        >>= fun _ => (sc.run d 0 >>= fun _ => hlo rfl opOut (fun _ => .ret ⟨⟩))) := rfl

set_option maxRecDepth 8192 in
theorem hostOps_sub : (hostOps : List (HloOp τ sig (Elt F))).Forall fun op => op.bufs ⊆ tcRefs τ sig :=
  ⟨StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nary_bufs_sub .., StableHlo.reshape_bufs_sub ..⟩

theorem hostOps_fresh : ∀ op ∈ (hostOps : List (HloOp τ sig (Elt F))), op.fresh = ∅ := by
  intro _ h
  repeat (cases h with | head => rfl | tail _ h => ?_)
  exact nomatch h

variable (m : (ℓ : Loc nD τ sig) → Buf (Elt F) ℓ) (ρ : Dev nD → PrngReg)

abbrev c13 : DevRef τ sig := Proc.devRef .tc (main_v13 : Ref sig .tc)
abbrev c14 : DevRef τ sig := Proc.devRef .tc (main_v14 : Ref sig .tc)
abbrev c15 : DevRef τ sig := Proc.devRef .tc (main_v15 : Ref sig .tc)

/-- The host's arrays when the call starts. -/
def V1 (d : Dev nD) : Valuation τ sig (Elt F) := after hostOps (fun b => m (d, b))
/-- The flat scores and the words the call gets. -/
def flat (d : Dev nD) : S37785609.Idx → F .f32 := V1 m d c14
def words (d : Dev nD) : S2048.Idx → BitVec 32 := V1 m d c13
/-- The host's arrays after the call. -/
def V2 (d : Dev nD) : Valuation τ sig (Elt F) := Function.update (V1 m d) c15 (resultOf (table d (flat m) (words m)))
/-- The host's arrays at the end. -/
def V3 (d : Dev nD) : Valuation τ sig (Elt F) := (opOut (F := F)).result (V2 m d)

abbrev T3 : Finset (DevRef τ sig) := {c14, c13, c15}
theorem T3_sub : T3 ⊆ ucRefs τ sig := by decide

theorem held_T3 (d : Dev nD) (W : Valuation τ sig (Elt F)) : (StableHlo.held (SparseCore.T d) T3 W : sProp 𝕄)
    = iprop((flLoc d ↦{fullShare} W c14) ∗ (bsLoc d ↦{fullShare} W c13) ∗ ouLoc d ↦{fullShare} W c15) := by
  unfold StableHlo.held T3
  rw [SparseCore.bigSep_insert' (by decide), SparseCore.bigSep_insert' (by decide), bigSep_singleton]

/-- The rest of the host's arrays, which the call does not touch. -/
theorem held_rest (d : Dev nD) : (StableHlo.held (SparseCore.T d) (ucRefs τ sig \ T3) (V1 m d) : sProp 𝕄) = StableHlo.held (SparseCore.T d) (ucRefs τ sig \ T3) (V2 m d) :=
  StableHlo.held_congr _ fun b hb => (Function.update_of_ne (fun e => by subst e; exact absurd hb (by decide)) _ _).symm

theorem V2_14 (d : Dev nD) : V2 m d c14 = flat m d := Function.update_of_ne (show c14 ≠ c15 by decide) _ _
theorem V2_13 (d : Dev nD) : V2 m d c13 = words m d := Function.update_of_ne (show c13 ≠ c15 by decide) _ _
theorem V2_15 (d : Dev nD) : V2 m d c15 = resultOf (table d (flat m) (words m)) := Function.update_self _ _ _

/-- Before the call: what SparseCore 0 takes, and the rest. -/
theorem before_call (d : Dev nD) : (StableHlo.held (d.tc : Thread nD τ) (ucRefs τ sig) (after hostOps fun b => m (d, b)) : sProp 𝕄)
    ⊢ iprop((given d (flat m) (words m) fullShare ∗ ∃ f, ouLoc d ↦{fullShare} f) ∗ StableHlo.held (SparseCore.T d) (ucRefs τ sig \ T3) (V2 m d)) := by
  change StableHlo.held (SparseCore.T d) (ucRefs τ sig) (V1 m d) ⊢ _
  rw [StableHlo.held_sub_split _ T3_sub, held_T3, held_rest]
  iintro ⟨⟨H1, H2, H3⟩, Hr⟩
  isplitr [Hr]
  · isplitl [H1 H2]
    · unfold given
      isplitl [H1]
      · iexact H1
      · iexact H2
    · iexists _; iexact H3
  · iexact Hr

/-- After it: all of the host's arrays again. -/
theorem after_call (d : Dev nD) : iprop((given d (flat m) (words m) fullShare ∗ ouLoc d ↦{fullShare} resultOf (table d (flat m) (words m)))
      ∗ StableHlo.held (SparseCore.T d) (ucRefs τ sig \ T3) (V2 m d)) ⊢ (StableHlo.held (SparseCore.T d) (ucRefs τ sig) (V2 m d) : sProp 𝕄) := by
  rw [StableHlo.held_sub_split (SparseCore.T d) T3_sub (V2 m d), held_T3, V2_13, V2_14, V2_15]
  unfold given
  iintro ⟨⟨⟨H1, H2⟩, H3⟩, Hr⟩
  isplitr [Hr]
  · isplitl [H1]; · iexact H1
    isplitl [H2]
    · iexact H2
    · iexact H3
  · iexact Hr

theorem over_cores (Φ : Fin 2 → sProp 𝕄) : bigSep Finset.univ Φ = iprop(Φ 0 ∗ Φ 1) := by
  rw [show (Finset.univ : Finset (Fin 2)) = {0, 1} by decide, SparseCore.bigSep_insert' (by decide), bigSep_singleton]

theorem starts (d : Dev nD) : iprop(given d (flat m) (words m) fullShare ∗ ∃ f, ouLoc d ↦{fullShare} f)
    ⊢ (bigSep Finset.univ fun c : Fin ((K (F := F)).nCore 0) => (P (flat m) (words m)).st 0 d c : sProp 𝕄) := by
  refine BI.Entails.trans ?_ (Entails.of_eq (over_cores fun c : Fin 2 => coreSt d (flat m) (words m) c).symm)
  unfold coreSt
  refine (?_ : (_ : sProp 𝕄) ⊢ (_ : sProp 𝕄))
  iintro H
  isplitl [H]
  · rw [if_pos (show ((0 : Fin 2) : Fin 2).val = 0 from rfl)]; iexact H
  · rw [if_neg (show ¬ ((1 : Fin 2) : Fin 2).val = 0 by decide)]; iempintro

theorem returns (d : Dev nD) : (bigSep Finset.univ fun c : Fin ((K (F := F)).nCore 0) => (P (flat m) (words m)).dn 0 d c : sProp 𝕄)
    ⊢ iprop((given d (flat m) (words m) fullShare ∗ ouLoc d ↦{fullShare} resultOf (table d (flat m) (words m))) ∗ bars (F := F) d 0 ∗ bars (F := F) d 1) := by
  refine BI.Entails.trans (Entails.of_eq (over_cores fun c : Fin 2 => iprop(coreDn d (flat m) (words m) c ∗ bars d c))) ?_
  unfold coreDn
  rw [if_pos (show ((0 : Fin 2) : Fin 2).val = 0 from rfl)]
  refine (?_ : (_ : sProp 𝕄) ⊢ (_ : sProp 𝕄))
  iintro ⟨⟨H, H0⟩, -, H1⟩
  isplitl [H]; · iexact H
  isplitl [H0]
  · iexact H0
  · iexact H1

theorem opOut_bufs : (opOut (F := F)).bufs ⊆ ucRefs τ sig := sub_ucRefs _ (StableHlo.unary_bufs_sub ..)

/-- What the host leaves the claims: its arrays, and every tile's barrier semaphore at zero. -/
abbrev FIN (d : Dev nD) : sProp 𝕄 := iprop(StableHlo.held (SparseCore.T d) (ucRefs τ sig) (V3 m d) ∗ bars (F := F) d 0 ∗ bars (F := F) d 1)

theorem hmain (κ : GSem nD τ sig → ℕ) (d : Dev nD) :
    iprop((K (F := F)).ctx EH (P (flat m) (words m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_split, show unscopedBufs d (fun b => m ((SparseCore.T d).loc b)) = StableHlo.held (SparseCore.T d) (ucRefs τ sig) (fun b => m (d, b))
    from unscopedBufs_held d (fun b => m (d, b))]
  iintro ⟨#Hctx, Hst, ⟨Hb, Hheld, Hts, -⟩, -⟩
  iapply (StableHlo.wp_seq 𝒱 none Set.univ d (ucRefs τ sig) _ hostOps
    (fun op h => sub_ucRefs op ((List.forall_iff_forall_mem.mp hostOps_sub) op h)) hostOps_fresh (fun b => m (d, b))) $$ [Hb Hheld]
  · isplitl [Hb] <;> iassumption
  iintro ⟨Hb, Hheld⟩
  ihave Hheld := (before_call m d) $$ Hheld
  icases Hheld with ⟨Hgo, Hrest⟩
  simp only [wp_bind, wp_pure]
  iapply ((K (F := F)).wp_run (D (F := F)) 𝒱 (EH := EH) (P := P (flat m) (words m)) κ d 0) $$ [Hst Hgo Hrest Hb Hts]
  isplitr; · iexact Hctx
  isplitl [Hst]; · iexact Hst
  isplitl [Hgo]
  · iapply (starts m d); iexact Hgo
  iintro ⟨Hst, Hdn⟩
  ihave Hdn := (returns m d) $$ Hdn
  icases Hdn with ⟨Hback, Hbars⟩
  ihave Hheld := (after_call m d) $$ [Hback Hrest]
  · isplitl [Hback] <;> iassumption
  iapply (StableHlo.wp_hlo_within 𝒱 (SparseCore.T d) none Set.univ (op := opOut) (S := ucRefs τ sig) opOut_bufs (V := V2 m d)) $$ [Hb Hheld]
  · isplitl [Hb] <;> iassumption
  iintro ⟨Hb, Hheld⟩
  rw [wp_ret]; imodintro
  isplitl [Hst]; · iexact Hst
  isplitr [Hb Hts]
  · isplitl [Hheld]
    · iexact Hheld
    · iexact Hbars
  isplitl [Hb] <;> iassumption

/-! ## The run -/

/-- What the claims read of a device's final state. -/
def fq (d : Dev nD) (s' : Phys nD τ sig (Elt F)) : Prop :=
  (∀ b ∈ ucRefs τ sig, s'.mem.mem (d, b) = V3 m d b)
    ∧ ∀ (c : Fin 2) (i : Fin ((K (F := F)).nSub 0)), s'.mem.sem (bcell d c ((K (F := F)).sub 0 i)) = 0

theorem read_array (d : Dev nD) (b : DevRef τ sig) (f : Buf (Elt F) ((d, b) : Loc nD τ sig)) (s' : Phys nD τ sig (Elt F)) :
    iprop((((d, b) : Loc nD τ sig) ↦{fullShare} f) ∗ SI s') ⊢ (⌜s'.mem.mem (d, b) = f⌝ : sProp 𝕄) := by
  iintro ⟨Hx, HSI⟩
  ihave H := (SI_pointsTo_agree (st := s') (ℓ := ((d, b) : Loc nD τ sig)) (I := Finset.univ) (q := fullShare) (f := f)) $$ [HSI Hx]
  · isplitl [HSI] <;> iassumption
  icases H with %hx
  ipureintro; exact funext fun i => hx i (Finset.mem_univ i)

theorem read_bars (d : Dev nD) (c : Fin τ.nSC) (i : Fin ((K (F := F)).nSub 0)) (s' : Phys nD τ sig (Elt F)) :
    iprop(bars (F := F) d c ∗ SI s') ⊢ (⌜s'.mem.sem (bcell d c ((K (F := F)).sub 0 i)) = 0⌝ : sProp 𝕄) :=
  (sep_mono_left (SparseCore.ent (bigSep_elim (Finset.mem_univ i)))).trans (SparseCore.Cfg.semVal_zero_read _ s')

theorem hfin (d : Dev nD) (s' : Phys nD τ sig (Elt F)) : iprop(FIN m d ∗ SI s') ⊢ (⌜fq m d s'⌝ : sProp 𝕄) :=
  fun x hx => ⟨fun b hb => ((sep_mono_left (sep_elim_left.trans (SparseCore.ent (bigSep_elim hb)))).trans (read_array d b (V3 m d b) s')) x hx,
    fun c i => match c with
      | 0 => ((sep_mono_left (sep_elim_right.trans sep_elim_left)).trans (read_bars d 0 i s')) x hx
      | 1 => ((sep_mono_left (sep_elim_right.trans sep_elim_right)).trans (read_bars d 1 i s')) x hx⟩

/-- The cells taken at the launch end at zero. -/
theorem hA (s' : Phys nD τ sig (Elt F)) (h : ∀ d, fq m d s') (g : GSem nD τ sig) (hg : g ∈ allCells) : s'.mem.sem g = 0 := by
  obtain ⟨⟨d, c, i⟩, -, rfl⟩ := Finset.mem_image.mp hg
  exact (h d).2 c ⟨i.val, i.isLt⟩

/-- Every run from a memory whose words are in range ends, at rest, with the host's arrays as computed. -/
theorem run_main [∀ e, Nonempty (Elt F e)] (hB : InRange (words m)) :
    θ_run (defs (F := F)) (threads (F := F)) ⟨m, fun _ => 0, ρ⟩
      (fun r => (∀ d : Dev nD, ∀ b ∈ ucRefs τ sig, r.2.mem (d, b) = V3 m d b) ∧ r.2.sem = fun _ => 0) :=
  SparseCore.Cfg.θ_run_sc_quiescent (K := K (F := F)) (D := D (F := F)) (𝒱 := 𝒱) (EH := EH) (P := P (flat m) (words m)) (hA := hA m) facts v₀
    (fun q hq => match q with | 0 => nomatch hq)
    (fun q _ => match q with | 0 => tileObl (flat m) (words m) facts hB)
    (fun q _ => match q with | 0 => vecSplit (flat m) (words m))
    m ρ main (fun _ => iprop(emp)) (FIN m) (u₀ (F := F)) (hu₀ (flat m) (words m)) (hmain m ρ) (fq m) (hfin m) _
    (fun _ h hz => ⟨fun d => (h d).1, hz⟩)

end Cert.Proof.KI
end
-- ==== Proof.Ideal.Ends.lean ====
module

public import proofs.«01_k».proof.Proof.Ideal.Host
public import proofs.«01_k».proof.Proof.Words

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (d : Dev nD) (L : grid0.Coords)

open Idealize.ShloMosaic.StableHlo (after tcRefs)
open Idealize.ShloMosaic.Pipeline (ucRefs)

variable (m : (ℓ : Loc nD τ sig) → Buf (Elt F) ℓ) (ρ : Dev nD → PrngReg)

/-! ## What the host's arrays hold -/

set_option maxRecDepth 8192 in
theorem V1_arg0 (d : Dev nD) : V1 m d (Proc.devRef .tc main_arg0) = m ((d.tc : Thread nD τ).loc main_arg0) := by
  unfold V1 hostOps
  after_results_simp <;> rfl
theorem V3_arg0 (d : Dev nD) : V3 m d (Proc.devRef .tc main_arg0) = m ((d.tc : Thread nD τ).loc main_arg0) :=
  ((opOut (F := F)).result_of_not_mem (V2 m d) (show (Proc.devRef .tc main_arg0 : DevRef τ sig) ∉ ({Proc.devRef .tc main_v16} : Finset (DevRef τ sig)) by decide)).trans
    ((Function.update_of_ne (show (Proc.devRef .tc main_arg0 : DevRef τ sig) ≠ c15 by decide) _ _).trans (V1_arg0 m d))
set_option maxRecDepth 8192 in
theorem V1_arg1 (d : Dev nD) : V1 m d (Proc.devRef .tc main_arg1) = m ((d.tc : Thread nD τ).loc main_arg1) := by
  unfold V1 hostOps
  after_results_simp <;> rfl
theorem V3_arg1 (d : Dev nD) : V3 m d (Proc.devRef .tc main_arg1) = m ((d.tc : Thread nD τ).loc main_arg1) :=
  ((opOut (F := F)).result_of_not_mem (V2 m d) (show (Proc.devRef .tc main_arg1 : DevRef τ sig) ∉ ({Proc.devRef .tc main_v16} : Finset (DevRef τ sig)) by decide)).trans
    ((Function.update_of_ne (show (Proc.devRef .tc main_arg1 : DevRef τ sig) ≠ c15 by decide) _ _).trans (V1_arg1 m d))
set_option maxRecDepth 8192 in
theorem V1_arg2 (d : Dev nD) : V1 m d (Proc.devRef .tc main_arg2) = m ((d.tc : Thread nD τ).loc main_arg2) := by
  unfold V1 hostOps
  after_results_simp <;> rfl
theorem V3_arg2 (d : Dev nD) : V3 m d (Proc.devRef .tc main_arg2) = m ((d.tc : Thread nD τ).loc main_arg2) :=
  ((opOut (F := F)).result_of_not_mem (V2 m d) (show (Proc.devRef .tc main_arg2 : DevRef τ sig) ∉ ({Proc.devRef .tc main_v16} : Finset (DevRef τ sig)) by decide)).trans
    ((Function.update_of_ne (show (Proc.devRef .tc main_arg2 : DevRef τ sig) ≠ c15 by decide) _ _).trans (V1_arg2 m d))
set_option maxRecDepth 8192 in
theorem V1_arg3 (d : Dev nD) : V1 m d (Proc.devRef .tc main_arg3) = m ((d.tc : Thread nD τ).loc main_arg3) := by
  unfold V1 hostOps
  after_results_simp <;> rfl
theorem V3_arg3 (d : Dev nD) : V3 m d (Proc.devRef .tc main_arg3) = m ((d.tc : Thread nD τ).loc main_arg3) :=
  ((opOut (F := F)).result_of_not_mem (V2 m d) (show (Proc.devRef .tc main_arg3 : DevRef τ sig) ∉ ({Proc.devRef .tc main_v16} : Finset (DevRef τ sig)) by decide)).trans
    ((Function.update_of_ne (show (Proc.devRef .tc main_arg3 : DevRef τ sig) ≠ c15 by decide) _ _).trans (V1_arg3 m d))

/-- The result: the first ten lanes. -/
theorem V3_out (d : Dev nD) : V3 m d (Proc.devRef .tc main_v16)
    = extractStridedSlice S10 ![0] (resultOf (table d (flat m) (words m))) slices_S16_S10_0 :=
  (StableHlo.unary_result ..).trans (congrArg (fun x : S16.Idx → F .f32 => extractStridedSlice S10 ![0] x slices_S16_S10_0) (V2_15 m d))

set_option maxRecDepth 8192 in
/-- The words are those of the index arrays. -/
theorem words_eq (d : Dev nD) : words m d = Index.wordsOf (m ((d.tc : Thread nD τ).loc main_arg1)) (m ((d.tc : Thread nD τ).loc main_arg2))
    (m ((d.tc : Thread nD τ).loc main_arg3)) := by
  unfold words V1 hostOps
  after_results_simp <;> rfl

set_option maxRecDepth 8192 in
/-- The flat scores are the scores. -/
theorem flat_eq (d : Dev nD) : flat m d = shapeCast S37785609 (m ((d.tc : Thread nD τ).loc main_arg0)) shapeCasts_S9x2049x2049_S37785609 := by
  unfold flat V1 hostOps
  after_results_simp <;> rfl

theorem inRange (h : ∀ d : Dev nD, Index.Bounded (m ((d.tc : Thread nD τ).loc main_arg1)) (m ((d.tc : Thread nD τ).loc main_arg2))
    (m ((d.tc : Thread nD τ).loc main_arg3))) : InRange (words m) := by
  intro d n hn i
  rw [words_eq, Index.moved_toNat (Index.wordsOf_lt (h d) i) hn]
  have := Index.wordsOf_lt (h d) i
  omega

/-- Every run from a memory whose indices are in range ends, at rest, the arguments unchanged and the result as computed. -/
theorem run_ends [∀ e, Nonempty (Elt F e)] (h : ∀ d : Dev nD, Index.Bounded (m ((d.tc : Thread nD τ).loc main_arg1))
    (m ((d.tc : Thread nD τ).loc main_arg2)) (m ((d.tc : Thread nD τ).loc main_arg3))) :
    θ_run (defs (F := F)) (threads (F := F)) ⟨m, fun _ => 0, ρ⟩ fun r =>
      (∀ c : Dev nD, r.2.mem ((c.tc : Thread nD τ).loc main_v16) = extractStridedSlice S10 ![0] (resultOf (table c (flat m) (words m))) slices_S16_S10_0
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) ∧ r.2.sem = fun _ => 0 := by
  refine (θ_run defs _ _).mono (fun r hr => ⟨fun c => ⟨?_, ?_, ?_, ?_, ?_⟩, hr.2⟩) (run_main m ρ (inRange m h))
  · exact (hr.1 c (Proc.devRef .tc main_v16) (by decide)).trans (V3_out m c)
  · exact (hr.1 c (Proc.devRef .tc main_arg0) (by decide)).trans (V3_arg0 m c)
  · exact (hr.1 c (Proc.devRef .tc main_arg1) (by decide)).trans (V3_arg1 m c)
  · exact (hr.1 c (Proc.devRef .tc main_arg2) (by decide)).trans (V3_arg2 m c)
  · exact (hr.1 c (Proc.devRef .tc main_arg3) (by decide)).trans (V3_arg3 m c)

end Cert.Proof.KI
end
-- ==== Proof.Losses.lean ====
/- The losses as real numbers: the scores the indices name, summed by kind. Shared by the two sides of the value claim. -/
module

public import proofs.«01_k».proof.Proof.Words
public import Idealize.ShloMosaic.PureOps.Ideal
public import Idealize.ShloMosaic.Lib.IdealHost

@[expose] public section

noncomputable section

namespace Cert.Proof.Index

open Idealize.ShloMosaic Idealize.ShloMosaic.ValueIdx

abbrev Scores : Shape := ⟨3, ![9, 2049, 2049]⟩

/-- The score of layer `n` at `(row, col)`. -/
def at3 (n row col : ℕ) : Scores.Idx :=
  ix3 ⟨n % 9, Nat.mod_lt _ (by decide)⟩ ⟨row % 2049, Nat.mod_lt _ (by decide)⟩ ⟨col % 2049, Nat.mod_lt _ (by decide)⟩

variable (r : Scores.Idx → ℝ) (a1 : IVec Pairs 32) (a2 a3 : IVec L512 32)

/-- The scores of the matched pairs, summed. -/
def pairSum (n : ℕ) : ℝ := ∑ t : Fin 1024, r (at3 n (a1 (ix2 t 0)).toNat (a1 (ix2 t 1)).toNat)
/-- The scores of the rows matched to none, summed. -/
def rowSum (n : ℕ) : ℝ := ∑ t : Fin 512, r (at3 n (a2 (ix1 t)).toNat 2048)
/-- The scores of the columns matched to none, summed. -/
def colSum (n : ℕ) : ℝ := ∑ t : Fin 512, r (at3 n 2048 (a3 (ix1 t)).toNat)

/-- A layer's loss. -/
def loss (n : ℕ) : ℝ := -(pairSum r a1 n / 1024) + (-(rowSum r a2 n / 512) + -(colSum r a3 n / 512)) / 2

/-- The ten results: nine losses and their mean. -/
def answer (n : ℕ) : ℝ := if n < 9 then loss r a1 a2 a3 n else (∑ k ∈ Finset.range 9, loss r a1 a2 a3 k) / 9

/-- Sums over the extended reals of reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A score that compares below infinity in absolute value is a real number. -/
theorem real_of_finite {x : EReal} (h : max x (-x) < ⊤) : x = ((x.toReal : ℝ) : EReal) := by
  refine (EReal.coe_toReal (fun e => ?_) (fun e => ?_)).symm
  · rw [e] at h; simp at h
  · rw [e] at h; simp at h

/-- The word of infinity. -/
theorem word_top : Ideal.ofBits .f32 0x7F800000#32 = ⊤ := by simp [Ideal.ofBits, Ideal.ieee]

/-- Under the predicate that asks for finite scores, the scores are real numbers. -/
theorem real_of_pre [Cert.Pre_in_range_and_finite.Facts] {a0 : FVec Ideal Scores .f32} {a1 : IVec Pairs 32} {a2 a3 : IVec L512 32}
    (h : Cert.Pre_in_range_and_finite.fn (F := Ideal) a0 a1 a2 a3 = fun _ => 1#1) (i : Scores.Idx) : a0 i = (((a0 i : EReal).toReal : ℝ) : EReal) := by
  have h : Ideal.cmp .olt (max (a0 i : EReal) (-(a0 i : EReal))) (Ideal.ofBits .f32 0x7F800000#32) = 1#1 := (bounded_of_finite_pre h).2 i
  rw [word_top] at h
  refine real_of_finite (by_contra fun hn => ?_)
  have e : Ideal.cmp .olt (max (a0 i : EReal) (-(a0 i : EReal))) ⊤ = BitVec.ofBool (decide (max (a0 i : EReal) (-(a0 i : EReal)) < ⊤)) := rfl
  rw [e, decide_eq_false hn] at h
  exact absurd h (by decide)

end Cert.Proof.Index

end
-- ==== Proof.Ideal.Value.lean ====
/- What the kernel computes over the extended reals, of scores that are real numbers: the losses. -/
module

public import proofs.«01_k».proof.Proof.Ideal.Ends
public import proofs.«01_k».proof.Proof.Losses

@[expose] public section

noncomputable section

namespace Cert.Proof.KI

open Cert.KernelIdeal Cert.KernelIdeal.Gen

open Idealize.ShloMosaic Idealize.SL.Sem Idealize.ShloMosaic.ValueIdx

/-! ## The constants -/

theorem weights_apply (x : S16.Idx) : (weights (F := Ideal)) x = ((-(1 / 1024) : ℝ) : EReal) := by
  show Ideal.ofBits .f32 0xBA800000#32 = _
  simp [Ideal.ofBits, Ideal.ieee, -EReal.coe_mul, -EReal.coe_neg]; norm_num

theorem zeros_apply (x : S16.Idx) : (zeros (F := Ideal)) x = ((0 : ℝ) : EReal) := by
  show Ideal.ofBits .f32 0x00000000#32 = _
  simp

theorem invLayers_eq : (invLayers (F := Ideal)) = ((9⁻¹ : ℝ) : EReal) := rfl

/-! ## A tile's partial sums -/

theorem sumTo_real (v : S2048.Idx → Ideal .f32) (q : S2048.Idx → ℝ) (hv : ∀ i, v i = ((q i : ℝ) : EReal)) (x : S16.Idx) : ∀ k,
    sumTo (F := Ideal) v k x = ((∑ j ∈ Finset.range k, q (tableIx (16 * j + (x 0).val)) * (-(1 / 1024)) : ℝ) : EReal)
  | 0 => by rw [Finset.sum_range_zero]; exact zeros_apply x
  | k + 1 => by
    rw [Finset.sum_range_succ, EReal.coe_add, ← sumTo_real v q hv x k, EReal.coe_mul, ← hv, ← weights_apply x]
    rfl

/-! ## The sum over the lanes -/

/-- The exchanges, on lanes of reals. -/
def foldReal (g : ℕ → ℝ) : ℕ → ℕ → ℝ
  | 0 => g
  | n + 1 => fun l => foldReal g n l + foldReal g n ((l ^^^ 2 ^ n) % 16)

theorem foldTo_real (t : FVec Ideal S16 .f32) (g : ℕ → ℝ) (h : ∀ x, t x = ((g (x 0).val : ℝ) : EReal)) : ∀ n (x : S16.Idx),
    foldTo (F := Ideal) t n x = ((foldReal g n (x 0).val : ℝ) : EReal)
  | 0, x => h x
  | n + 1, x => by
    show foldTo (F := Ideal) t n x + foldTo (F := Ideal) t n (laneIx ((x 0).val ^^^ 2 ^ n)) = _
    rw [foldTo_real t g h n, foldTo_real t g h n, ← EReal.coe_add]
    rfl

theorem foldReal_four (g : ℕ → ℝ) (l : Fin 16) : foldReal g 4 l.val = ∑ k ∈ Finset.range 16, g k := by
  fin_cases l <;> simp [foldReal, Finset.sum_range_succ] <;> ring

/-- Sums by groups of sixteen. -/
theorem sum_groups (f : ℕ → ℝ) : ∀ n, ∑ j ∈ Finset.range n, ∑ l ∈ Finset.range 16, f (16 * j + l) = ∑ t ∈ Finset.range (16 * n), f t
  | 0 => rfl
  | n + 1 => by
    rw [Finset.sum_range_succ, sum_groups f n, Nat.mul_succ, Finset.sum_range_add]

/-- A layer's partial sums, summed over the lanes. -/
theorem lane_sum (v : S2048.Idx → Ideal .f32) (q : S2048.Idx → ℝ) (hv : ∀ i, v i = ((q i : ℝ) : EReal)) (x : S16.Idx) :
    foldTo (F := Ideal) (sumTo v 128) 4 x = (((∑ t ∈ Finset.range 2048, q (tableIx t)) * (-(1 / 1024)) : ℝ) : EReal) := by
  rw [foldTo_real (sumTo v 128) (fun l => ∑ j ∈ Finset.range 128, q (tableIx (16 * j + l)) * (-(1 / 1024))) (fun y => sumTo_real v q hv y 128),
    foldReal_four _ (x 0), Finset.sum_comm]
  congr 1
  rw [sum_groups (fun t => q (tableIx t) * (-(1 / 1024))) 128, Finset.sum_mul]

/-! ## The layers -/

section Layers

variable (p : S16x16.Idx → Ideal .f32) (L : ℕ → ℝ) (h : ∀ n < 9, ∀ x, foldTo (F := Ideal) (rowOf p n) 4 x = ((L n : ℝ) : EReal))
include h

theorem total_real (x : S16.Idx) : ∀ n ≤ 9, (layersTo (F := Ideal) p n).2 x = ((∑ k ∈ Finset.range n, L k : ℝ) : EReal)
  | 0, _ => by rw [Finset.sum_range_zero]; exact zeros_apply x
  | n + 1, hn => by
    rw [Finset.sum_range_succ, EReal.coe_add, ← total_real x n (by omega), ← h n (by omega) x]
    rfl

theorem lane_eq (x : S16.Idx) {n : ℕ} (hn : n < 16) : cmpi .eq lanes (broadcast S16 (BitVec.ofNat 32 n)) x = if (x 0).val = n then 1#1 else 0#1 := by
  have e : ∀ a b : Fin 16, IntOp.cmpi .eq (BitVec.ofNat 32 a.val) (BitVec.ofNat 32 b.val) = if a.val = b.val then 1#1 else 0#1 := by decide
  show IntOp.cmpi .eq (lanes x) (BitVec.ofNat 32 n) = _
  rw [lanes_apply]
  exact e (x 0) ⟨n, hn⟩

theorem losses_real (x : S16.Idx) : ∀ n ≤ 9, (x 0).val < n → (layersTo (F := Ideal) p n).1 x = ((L (x 0).val : ℝ) : EReal)
  | 0, _, hx => absurd hx (Nat.not_lt_zero _)
  | n + 1, hn, hx => by
    show (if cmpi .eq lanes (broadcast S16 (BitVec.ofNat 32 n)) x = 1#1 then foldTo (F := Ideal) (rowOf p n) 4 x else (layersTo (F := Ideal) p n).1 x) = _
    rw [lane_eq p L h x (by omega : n < 16)]
    by_cases e : (x 0).val = n
    · rw [if_pos e, if_pos rfl, h n (by omega), e]
    · rw [if_neg e, if_neg (by decide)]
      exact losses_real x n (by omega) (by omega)

theorem result_real (x : S16.Idx) (hx : (x 0).val < 10) :
    resultOf (F := Ideal) p x = ((if (x 0).val < 9 then L (x 0).val else (∑ k ∈ Finset.range 9, L k) / 9 : ℝ) : EReal) := by
  show (if cmpi .eq lanes (broadcast S16 (BitVec.ofNat 32 9)) x = 1#1 then (layersTo (F := Ideal) p 9).2 x * invLayers (F := Ideal) else (layersTo (F := Ideal) p 9).1 x) = _
  rw [lane_eq p L h x (by omega : 9 < 16)]
  by_cases e : (x 0).val = 9
  · rw [if_pos e, if_pos rfl, total_real p L h x 9 le_rfl, invLayers_eq, ← EReal.coe_mul, if_neg (by omega), div_eq_mul_inv]
  · rw [if_neg e, if_neg (by decide), if_pos (by omega), losses_real p L h x 9 le_rfl (by omega)]

end Layers

/-! ## The scores the words name -/

section Words

variable {a0 : S9x2049x2049.Idx → Ideal .f32} {r : Index.Scores.Idx → ℝ} (hr : ∀ i, a0 i = ((r i : ℝ) : EReal))
  {a1 : IVec Index.Pairs 32} {a2 a3 : IVec Index.L512 32} (hb : Index.Bounded a1 a2 a3)

/-- The flat scores at a layer's row and column. -/
theorem flat_at (n row col k : ℕ) (hn : n < 9) (hrow : row < 2049) (hcol : col < 2049) (hk : k = 2049 * row + col + n * 4198401) :
    shapeCast S37785609 a0 shapeCasts_S9x2049x2049_S37785609 (scoreIx k) = a0 (Index.at3 n row col) := by
  refine shapeCast_apply a0 _ (scoreIx k) (Index.at3 n row col) ?_
  rw [Shape.rowMajor_val_three, Shape.rowMajor_val_one]
  show (n % 9 * 2049 + row % 2049) * 2049 + col % 2049 = k % 37785609
  rw [Nat.mod_eq_of_lt hn, Nat.mod_eq_of_lt hrow, Nat.mod_eq_of_lt hcol, hk, Nat.mod_eq_of_lt (by omega)]
  omega

/-- The real a layer's place of the table of words names. -/
def named (r : Index.Scores.Idx → ℝ) (w : S2048.Idx → BitVec 32) (n : ℕ) (i : S2048.Idx) : ℝ :=
  r (Index.at3 n ((w i).toNat / 2049) ((w i).toNat % 2049))

include hr hb

theorem picked_real {n : ℕ} (hn : n < 9) (i : S2048.Idx) :
    picked (F := Ideal) (Index.wordsOf a1 a2 a3) (Scalar.muli (BitVec.ofNat 32 n) 4198401#32) (shapeCast S37785609 a0 shapeCasts_S9x2049x2049_S37785609) i
      = ((named r (Index.wordsOf a1 a2 a3) n i : ℝ) : EReal) := by
  have hw := Index.wordsOf_lt hb i
  unfold picked named
  rw [Index.moved_toNat hw hn, ← hr]
  refine flat_at n _ _ _ hn ?_ (Nat.mod_lt _ (by omega)) ?_
  · omega
  · have := Nat.div_add_mod (Index.wordsOf a1 a2 a3 i).toNat 2049
    omega

omit hr in
theorem named_sum (n : ℕ) : ∑ t ∈ Finset.range 2048, named r (Index.wordsOf a1 a2 a3) n (tableIx t)
    = Index.pairSum r a1 n + Index.rowSum r a2 n + Index.colSum r a3 n := by
  have ti : ∀ k (hk : k < 2048), tableIx k = ix1 ⟨k, hk⟩ := by
    intro k hk; funext a; fin_cases a; exact Fin.ext (Nat.mod_eq_of_lt hk)
  rw [show (2048 : ℕ) = 1024 + 512 + 512 from rfl, Finset.sum_range_add, Finset.sum_range_add]
  refine congrArg₂ (· + ·) (congrArg₂ (· + ·) ?_ ?_) ?_
  · rw [Finset.sum_range]
    refine Finset.sum_congr rfl fun t _ => ?_
    have h0 := hb.pairs (ix2 t 0)
    have h1 := hb.pairs (ix2 t 1)
    unfold named
    rw [ti t.val (by omega), Index.matched_toNat hb t]
    congr 2 <;> omega
  · rw [Finset.sum_range]
    refine Finset.sum_congr rfl fun t _ => ?_
    have h0 := hb.rows (ix1 t)
    unfold named
    rw [ti (1024 + t.val) (by omega), Index.rowless_toNat hb t]
    congr 2 <;> omega
  · rw [Finset.sum_range]
    refine Finset.sum_congr rfl fun t _ => ?_
    have h0 := hb.cols (ix1 t)
    unfold named
    rw [ti (1024 + 512 + t.val) (by omega), Index.colless_toNat hb t]
    congr 2 <;> omega

/-- A layer's loss, of its row of partial sums. -/
theorem layer_real (d : Dev nD) {A : Dev nD → S37785609.Idx → Ideal .f32} {B : Dev nD → S2048.Idx → BitVec 32}
    (hA : A d = shapeCast S37785609 a0 shapeCasts_S9x2049x2049_S37785609) (hB : B d = Index.wordsOf a1 a2 a3) (n : ℕ) (hn : n < 9) (x : S16.Idx) :
    foldTo (F := Ideal) (rowOf (table d A B) n) 4 x = ((Index.loss r a1 a2 a3 n : ℝ) : EReal) := by
  rw [rowOf_table d A B n hn]
  unfold sums
  rw [hA, hB, lane_sum _ _ (picked_real hr hb hn) x, named_sum hb]
  congr 1
  unfold Index.loss
  ring

/-- The kernel's result. -/
theorem value (d : Dev nD) {A : Dev nD → S37785609.Idx → Ideal .f32} {B : Dev nD → S2048.Idx → BitVec 32}
    (hA : A d = shapeCast S37785609 a0 shapeCasts_S9x2049x2049_S37785609) (hB : B d = Index.wordsOf a1 a2 a3) :
    extractStridedSlice S10 ![0] (resultOf (F := Ideal) (table d A B)) slices_S16_S10_0 = fun j => ((Index.answer r a1 a2 a3 (j 0).val : ℝ) : EReal) := by
  funext j
  have hj : (j 0).val < 10 := (j 0).isLt
  rw [extractStridedSlice_apply ![0] (resultOf (F := Ideal) (table d A B)) slices_S16_S10_0 j (laneIx (j 0).val) (fun a => by
    fin_cases a
    show (j 0).val % 16 = 0 + (j 0).val
    omega)]
  have e : ((laneIx (j 0).val) 0).val = (j 0).val := Nat.mod_eq_of_lt (by omega)
  rw [result_real (table d A B) (Index.loss r a1 a2 a3) (layer_real hr hb d hA hB) _ (by rw [e]; exact hj), e]
  rfl

end Words

end Cert.Proof.KI
end
-- ==== Proof.RefValue.lean ====
/- What the reference computes over the extended reals, of scores that are real numbers: the losses. -/
module

public import proofs.«01_k».proof.Proof.Losses
public import proofs.«01_k».proof.Proof.Gen.ReferenceIdeal.Run
public import Idealize.ShloMosaic.Lib.Pointwise.Reduce

@[expose] public section

noncomputable section

namespace Cert.Proof.Ref

open Cert.ReferenceIdeal Cert.ReferenceIdeal.Gen

open Idealize.ShloMosaic hiding ix1 ix2 ix3
open Idealize.SL.Sem Idealize.ShloMosaic.ValueIdx

/-! ## The indices -/

/-- An index in range is not wrapped. -/
theorem wrap_apply {s : Shape} (v z w : IVec s 32) (i : s.Idx) (hz : z i = 0#32) (hv : (v i).toNat < 2048) :
    select (cmpi .slt v z) (addi v w) v i = v i := by
  show (if IntOp.cmpi .slt (v i) (z i) = 1#1 then _ else v i) = v i
  refine if_neg fun h => ?_
  have h := IntOp.cmpi_slt.1 h
  rw [hz, show (0#32 : BitVec 32).toInt = 0 by decide] at h
  have := BitVec.toInt_eq_toNat_cond (v i)
  split at this <;> omega

section Columns

variable {C : ℕ} (hC : C ≠ 1) (u v : IVec ⟨1, ![C]⟩ 32) (hb : (⟨1, ![C]⟩ : Shape).BroadcastsInDim ⟨2, ![C, 1]⟩ ![0])
  (hc : Shape.Concatenates [⟨2, ![C, 1]⟩, ⟨2, ![C, 1]⟩] ⟨2, ![C, 2]⟩ 1) (t : Fin C)

/-- Two columns side by side. -/
abbrev columns : IVec ⟨2, ![C, 2]⟩ 32 :=
  concatenate ⟨2, ![C, 2]⟩ 1 [⟨⟨2, ![C, 1]⟩, broadcastInDim ⟨2, ![C, 1]⟩ ![0] hb u⟩, ⟨⟨2, ![C, 1]⟩, broadcastInDim ⟨2, ![C, 1]⟩ ![0] hb v⟩] hc

include hC

theorem column_of : broadcastInDim ⟨2, ![C, 1]⟩ ![0] hb u (ix2 t 0) = u (ix1 t) :=
  broadcastInDim_apply ![0] hb u (ix2 t 0) (ix1 t) fun a => by
    fin_cases a
    show t.val = if C = 1 then 0 else t.val
    rw [if_neg hC]

theorem columns_left : columns u v hb hc (ix2 t 0) = u (ix1 t) := by
  rw [← column_of hC u hb t]
  exact concatenate_pair_apply_left 1 (broadcastInDim ⟨2, ![C, 1]⟩ ![0] hb u) (broadcastInDim ⟨2, ![C, 1]⟩ ![0] hb v) hc (ix2 t 0) rfl (ix2 t 0) fun b => by
    match b with
    | ⟨0, _⟩ => rfl
    | ⟨1, _⟩ => rfl

theorem columns_right : columns u v hb hc (ix2 t 1) = v (ix1 t) := by
  rw [← column_of hC v hb t]
  exact concatenate_pair_apply_right 1 (broadcastInDim ⟨2, ![C, 1]⟩ ![0] hb u) (broadcastInDim ⟨2, ![C, 1]⟩ ![0] hb v) hc (ix2 t 1) rfl rfl (ix2 t 0)
    (fun b => by
      match b with
      | ⟨0, _⟩ => exact fun _ => rfl
      | ⟨1, _⟩ => exact fun h => absurd rfl h) rfl

end Columns

/-! ## One kind of scores -/

section Picks

variable {C : ℕ}

/-- The dimension numbers of a gather of one score a layer at each pair of indices. -/
abbrev picks (C : ℕ) (wf : GatherDims.WF ⟨3, ![9, 2049, 2049]⟩ ⟨2, ![C, 2]⟩ ⟨2, ![9, C]⟩ [0] [1, 2] [] [1, 2] [] 1 ![9, 1, 1]) :
    GatherDims ⟨3, ![9, 2049, 2049]⟩ ⟨2, ![C, 2]⟩ ⟨2, ![9, C]⟩ where
  offsetDims := [0]
  collapsedSliceDims := [1, 2]
  operandBatchingDims := []
  startIndicesBatchingDims := []
  startIndexMap := [1, 2]
  indexVectorDim := 1
  sliceSizes := ![9, 1, 1]
  wf := wf

variable (wf : GatherDims.WF ⟨3, ![9, 2049, 2049]⟩ ⟨2, ![C, 2]⟩ ⟨2, ![9, C]⟩ [0] [1, 2] [] [1, 2] [] 1 ![9, 1, 1])

theorem index_row (n : Fin 9) (t : Fin C) (h) : (picks C wf).siIdx (ix2 n t) ⟨List.idxOf (1 : Fin 3) (picks C wf).startIndexMap, h⟩ = ix2 t 0 := by
  funext b; refine Fin.ext ?_
  match b with
  | ⟨0, _⟩ => rfl
  | ⟨1, _⟩ => rfl

theorem index_col (n : Fin 9) (t : Fin C) (h) : (picks C wf).siIdx (ix2 n t) ⟨List.idxOf (2 : Fin 3) (picks C wf).startIndexMap, h⟩ = ix2 t 1 := by
  funext b; refine Fin.ext ?_
  match b with
  | ⟨0, _⟩ => rfl
  | ⟨1, _⟩ => rfl

theorem small {x : BitVec 32} (h : x.toNat < 2049) : min x.toInt.toNat (2049 - 1) = x.toNat % 2049 := by
  have := BitVec.toInt_eq_toNat_cond x
  split at this <;> omega

theorem zero_not : (0 : Fin 3) ∉ ([1, 2] : List (Fin 3)) := by decide
theorem one_mem : (1 : Fin 3) ∈ ([1, 2] : List (Fin 3)) := by decide
theorem two_mem : (2 : Fin 3) ∈ ([1, 2] : List (Fin 3)) := by decide

theorem picks_apply {α : Type} (x : (⟨3, ![9, 2049, 2049]⟩ : Shape).Idx → α) (idx : IVec ⟨2, ![C, 2]⟩ 32) (n : Fin 9) (t : Fin C)
    (h0 : (idx (ix2 t 0)).toNat < 2049) (h1 : (idx (ix2 t 1)).toNat < 2049) :
    Host.gather (picks C wf) x idx (ix2 n t) = x (Index.at3 n.val (idx (ix2 t 0)).toNat (idx (ix2 t 1)).toNat) := by
  unfold Host.gather
  congr 1
  funext a
  refine Fin.ext ?_
  show (picks C wf).start (ix2 n t) idx a + (picks C wf).batchCoord (ix2 n t) a + (picks C wf).offCoord (ix2 n t) a = _
  rw [GatherDims.batchCoord_eq_zero _ _ _ List.not_mem_nil, Nat.add_zero]
  match a with
  | ⟨0, _⟩ =>
    unfold GatherDims.start GatherDims.offCoord
    rw [dif_neg (show (⟨0, _⟩ : Fin 3) ∉ (picks C wf).startIndexMap from zero_not), dif_pos ((GatherDims.mem_sKept _ _).mpr ⟨zero_not, List.not_mem_nil⟩), Nat.zero_add]
    exact (Nat.mod_eq_of_lt n.isLt).symm
  | ⟨1, _⟩ =>
    rw [GatherDims.offCoord_eq_zero _ _ _ (fun h => ((GatherDims.mem_sKept _ _).mp h).1 one_mem), Nat.add_zero]
    unfold GatherDims.start
    rw [dif_pos (show (⟨1, _⟩ : Fin 3) ∈ (picks C wf).startIndexMap from one_mem)]
    refine (congrArg (fun i => min (idx i).toInt.toNat (2049 - 1)) (index_row wf n t _)).trans ?_
    exact small h0
  | ⟨2, _⟩ =>
    rw [GatherDims.offCoord_eq_zero _ _ _ (fun h => ((GatherDims.mem_sKept _ _).mp h).1 two_mem), Nat.add_zero]
    unfold GatherDims.start
    rw [dif_pos (show (⟨2, _⟩ : Fin 3) ∈ (picks C wf).startIndexMap from two_mem)]
    refine (congrArg (fun i => min (idx i).toInt.toNat (2049 - 1)) (index_col wf n t _)).trans ?_
    exact small h1

/-- Division of reals by a real that is not zero. -/
theorem div_real (a b : ℝ) (hb : b ≠ 0) : Ideal.div (a : EReal) (b : EReal) = ((a / b : ℝ) : EReal) := by
  rw [Ideal.div_coe hb, ← EReal.coe_mul]
  congr 1
  ring

variable {x : S9x2049x2049.Idx → Ideal .f32} {r : Index.Scores.Idx → ℝ} (hx : ∀ i, x i = ((r i : ℝ) : EReal))
include hx

/-- Minus the mean of one kind of scores. -/
theorem mean_real (idx : IVec ⟨2, ![C, 2]⟩ 32) (hred : (⟨2, ![9, C]⟩ : Shape).ReducesTo [1] S9) (hs : 0 < S_.numel) (hb : S_.BroadcastsInDim S9 ![])
    (word : BitVec 32) (den : ℝ) (hden : den ≠ 0) (hword : Ideal.ofBits .f32 word = ((den : ℝ) : EReal)) (row col : Fin C → ℕ)
    (h0 : ∀ t, (idx (ix2 t 0)).toNat = row t ∧ row t < 2049) (h1 : ∀ t, (idx (ix2 t 1)).toNat = col t ∧ col t < 2049) (n : Fin 9) :
    Host.negf (Host.divf (Host.reduceAdd (F := Ideal) (φ := .f32) (Host.gather (picks C wf) x idx) (constant S_ .f32 0x00000000#32) hred hs)
        (broadcastInDim S9 ![] hb (constant S_ .f32 word))) (ix1 n)
      = ((-((∑ t : Fin C, r (Index.at3 n.val (row t) (col t))) / den) : ℝ) : EReal) := by
  show -(Ideal.div (Ideal.hostReduceAdd hred (Host.gather (picks C wf) x idx) (Ideal.ofBits .f32 0x00000000#32) (ix1 n)) (Ideal.ofBits .f32 word)) = _
  rw [Ideal.hostReduceAdd_r2_a1, Ideal.ofBits_zero_f32, zero_add, hword]
  have e : ∀ t : Fin C, Host.gather (picks C wf) x idx (ix2 n t) = ((r (Index.at3 n.val (row t) (col t)) : ℝ) : EReal) := fun t => by
    rw [picks_apply wf x idx n t (by have := h0 t; omega) (by have := h1 t; omega), (h0 t).1, (h1 t).1]
    exact hx _
  rw [EReal.coe_neg, ← div_real _ _ hden, Index.coe_sum]
  refine congrArg (fun s : EReal => -(Ideal.div s (den : EReal))) (Finset.sum_congr rfl fun t _ => ?_)
  exact e t

end Picks

/-! ## The constants -/

theorem word_1024 : Ideal.ofBits .f32 0x44800000#32 = ((1024 : ℝ) : EReal) := by
  simp [Ideal.ofBits, Ideal.ieee, -EReal.coe_mul]; norm_num
theorem word_512 : Ideal.ofBits .f32 0x44000000#32 = ((512 : ℝ) : EReal) := by
  simp [Ideal.ofBits, Ideal.ieee, -EReal.coe_mul]; norm_num
theorem word_2 : Ideal.ofBits .f32 0x40000000#32 = ((2 : ℝ) : EReal) := by
  simp [Ideal.ofBits, Ideal.ieee, -EReal.coe_mul]; norm_num
theorem word_9 : Ideal.ofBits .f32 0x41100000#32 = ((9 : ℝ) : EReal) := by
  simp [Ideal.ofBits, Ideal.ieee, -EReal.coe_mul]; norm_num

/-! ## The layers, and their mean -/

section Result

/-- Nine losses of two parts each, and their mean. -/
theorem result_real (pos a b : FVec Ideal S9 .f32) (p ra rb : ℕ → ℝ) (hp : ∀ n : Fin 9, pos (ix1 n) = ((p n.val : ℝ) : EReal))
    (ha : ∀ n : Fin 9, a (ix1 n) = ((ra n.val : ℝ) : EReal)) (hb : ∀ n : Fin 9, b (ix1 n) = ((rb n.val : ℝ) : EReal)) (L : FVec Ideal S9 .f32)
    (hL : L = addf pos (Host.divf (addf a b) (broadcastInDim S9 ![] bcast_S_S9 (constant S_ .f32 0x40000000#32)))) :
    concatenate S10 0 [⟨S9, L⟩, ⟨S1, broadcastInDim S1 ![] bcast_S_S1
      (Host.divf (Host.reduceAdd L (constant S_ .f32 0x00000000#32) reducesTo_S9_S_d0 h_S_) (constant S_ .f32 0x41100000#32))⟩] concatenates_S9_S1_S10_d0
      = fun j => ((if (j 0).val < 9 then p (j 0).val + (ra (j 0).val + rb (j 0).val) / 2
          else (∑ k ∈ Finset.range 9, (p k + (ra k + rb k) / 2)) / 9 : ℝ) : EReal) := by
  have hLr : ∀ n : Fin 9, L (ix1 n) = ((p n.val + (ra n.val + rb n.val) / 2 : ℝ) : EReal) := fun n => by
    rw [hL]
    show pos (ix1 n) + Ideal.div (a (ix1 n) + b (ix1 n)) (Ideal.ofBits .f32 0x40000000#32) = _
    rw [hp, ha, hb, word_2, ← EReal.coe_add (ra _), div_real _ _ (by norm_num), ← EReal.coe_add]
  funext j
  have hj : (j 0).val < 10 := (j 0).isLt
  by_cases h : (j 0).val < 9
  · rw [if_pos h, ← hLr ⟨(j 0).val, h⟩]
    exact concatenate_pair_apply_left 0 L _ concatenates_S9_S1_S10_d0 j rfl (ix1 ⟨(j 0).val, h⟩) fun b => by
      match b with
      | ⟨0, _⟩ => rfl
  · rw [if_neg h]
    refine (concatenate_pair_apply_right 0 L _ concatenates_S9_S1_S10_d0 j rfl rfl (ix1 (0 : Fin 1)) (fun b hb => absurd (Subsingleton.elim _ _) hb) ?_).trans ?_
    · show 0 + 9 = (j 0).val
      omega
    · show Ideal.div (Ideal.hostReduceAdd reducesTo_S9_S_d0 L (Ideal.ofBits .f32 0x00000000#32) _) (Ideal.ofBits .f32 0x41100000#32) = _
      rw [Ideal.hostReduceAdd_r1_a0, Ideal.ofBits_zero_f32, zero_add, word_9, ← div_real _ _ (by norm_num), Finset.sum_range, Index.coe_sum]
      exact congrArg (fun s : EReal => Ideal.div s ((9 : ℝ) : EReal)) (Finset.sum_congr rfl fun k _ => hLr k)

variable (m : (ℓ : Loc nD τ sig) → Buf (Elt Ideal) ℓ) (c : Dev nD) {r : Index.Scores.Idx → ℝ}
  (hr : ∀ i, m ((c.tc : Thread nD τ).loc main_arg0) i = ((r i : ℝ) : EReal))
  {a1 : IVec Index.Pairs 32} {a2 a3 : IVec Index.L512 32}
  (h1 : m ((c.tc : Thread nD τ).loc main_arg1) = a1) (h2 : m ((c.tc : Thread nD τ).loc main_arg2) = a2) (h3 : m ((c.tc : Thread nD τ).loc main_arg3) = a3)
  (hb : Index.Bounded a1 a2 a3)
include hr h1 h2 h3 hb

/-- The reference's result. -/
theorem value : Value.res_main_v59 (F := Ideal) m c = fun j => ((Index.answer r a1 a2 a3 (j 0).val : ℝ) : EReal) := by
  unfold Value.res_main_v59
  rw [h1, h2, h3]
  have w0 : ∀ t : Fin 1024, ∀ v : IVec S1024 32, (v (ix1 t)).toNat < 2048 → select (cmpi .slt v (broadcastInDim S1024 ![] bcast_S_S1024 (constantI S_ 32 0#32)))
      (addi v (broadcastInDim S1024 ![] bcast_S_S1024 (constantI S_ 32 2049#32))) v (ix1 t) = v (ix1 t) := fun t v hv => wrap_apply v _ _ (ix1 t) rfl hv
  have w1 : ∀ t : Fin 512, ∀ v : IVec S512 32, (v (ix1 t)).toNat < 2048 → select (cmpi .slt v (broadcastInDim S512 ![] bcast_S_S512 (constantI S_ 32 0#32)))
      (addi v (broadcastInDim S512 ![] bcast_S_S512 (constantI S_ 32 2049#32))) v (ix1 t) = v (ix1 t) := fun t v hv => wrap_apply v _ _ (ix1 t) rfl hv
  have c0 : ∀ t : Fin 1024, shapeCast S1024 (extractStridedSlice S1024x1 ![0, 0] a1 slices_S1024x2_S1024x1_0_0) shapeCasts_S1024x1_S1024 (ix1 t) = a1 (ix2 t 0) :=
    fun t => Index.column_apply a1 0 _ slices_S1024x2_S1024x1_0_0 rfl rfl t
  have c1 : ∀ t : Fin 1024, shapeCast S1024 (extractStridedSlice S1024x1 ![0, 1] a1 slices_S1024x2_S1024x1_0_1) shapeCasts_S1024x1_S1024 (ix1 t) = a1 (ix2 t 1) :=
    fun t => Index.column_apply a1 1 _ slices_S1024x2_S1024x1_0_1 rfl rfl t
  refine (result_real _ _ _ (fun n => -(Index.pairSum r a1 n / 1024)) (fun n => -(Index.rowSum r a2 n / 512)) (fun n => -(Index.colSum r a3 n / 512))
    (fun n => ?_) (fun n => ?_) (fun n => ?_) _ rfl).trans rfl
  · refine mean_real (C := 1024) _ hr _ _ _ _ _ 1024 (by norm_num) word_1024 (fun t => (a1 (ix2 t 0)).toNat) (fun t => (a1 (ix2 t 1)).toNat) (fun t => ⟨?_, ?_⟩) (fun t => ⟨?_, ?_⟩) n
    · refine congrArg BitVec.toNat ((columns_left (C := 1024) (by decide) _ _ _ _ t).trans ((w0 t _ ?_).trans (c0 t)))
      rw [c0 t]; exact hb.pairs _
    · have := hb.pairs (ix2 t 0); omega
    · refine congrArg BitVec.toNat ((columns_right (C := 1024) (by decide) _ _ _ _ t).trans ((w0 t _ ?_).trans (c1 t)))
      rw [c1 t]; exact hb.pairs _
    · have := hb.pairs (ix2 t 1); omega
  · refine mean_real (C := 512) _ hr _ _ _ _ _ 512 (by norm_num) word_512 (fun t => (a2 (ix1 t)).toNat) (fun _ => 2048) (fun t => ⟨?_, ?_⟩) (fun t => ⟨?_, by decide⟩) n
    · exact congrArg BitVec.toNat ((columns_left (C := 512) (by decide) _ _ _ _ t).trans (w1 t _ (hb.rows _)))
    · have := hb.rows (ix1 t); omega
    · exact congrArg BitVec.toNat ((columns_right (C := 512) (by decide) _ _ _ _ t).trans rfl)
  · refine mean_real (C := 512) _ hr _ _ _ _ _ 512 (by norm_num) word_512 (fun _ => 2048) (fun t => (a3 (ix1 t)).toNat) (fun t => ⟨?_, by decide⟩) (fun t => ⟨?_, ?_⟩) n
    · exact congrArg BitVec.toNat ((columns_left (C := 512) (by decide) _ _ _ _ t).trans rfl)
    · exact congrArg BitVec.toNat ((columns_right (C := 512) (by decide) _ _ _ _ t).trans (w1 t _ (hb.cols _)))
    · have := hb.cols (ix1 t); omega

end Result

end Cert.Proof.Ref

end
-- ==== Proof.Claims.lean ====
/- The claims: each program's run read at its precondition. -/
module

public import proofs.«01_k».proof.Proof.Ends
public import proofs.«01_k».proof.Proof.Ideal.Value
public import proofs.«01_k».proof.Proof.RefValue
public import proofs.«01_k».proof.Proof.Gen.ReferenceIdeal.Run
public import proofs.«01_k».proof.Proof.Gen.Pre_indices_in_range
public import proofs.«01_k».proof.Proof.Gen.Pre_in_range_and_finite

@[expose] public section

noncomputable section

namespace Cert.Proof

open Idealize.ShloMosaic Idealize.SL.Sem

theorem frame_p : Cert.quiescent_Kernel := fun m g h =>
  (θ_run Cert.Kernel.defs _ _).mono (fun _ hr => ⟨fun c => (hr.1 c).2, hr.2⟩)
    (K.run_ends (F := Bits) m g fun d => Index.bounded_of_pre (h d))

theorem frame_pi : Cert.quiescent_KernelIdeal := fun m g h =>
  (θ_run Cert.KernelIdeal.defs _ _).mono (fun _ hr => ⟨fun c => (hr.1 c).2, hr.2⟩)
    (KI.run_ends (F := Ideal) m g fun d => Index.bounded_of_pre (h d))

theorem frame_pi_finite : Cert.quiescent_KernelIdeal_pre_in_range_and_finite := fun m g h =>
  (θ_run Cert.KernelIdeal.defs _ _).mono (fun _ hr => ⟨fun c => (hr.1 c).2, hr.2⟩)
    (KI.run_ends (F := Ideal) m g fun d => (Index.bounded_of_finite_pre (h d)).1)

theorem frame_ri : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem frame_ri_finite : Cert.quiescent_ReferenceIdeal_pre_in_range_and_finite := fun m g _ =>
  (θ_run Cert.ReferenceIdeal.defs _ _).mono (fun r h => ⟨fun c => (h c).2, sem_eq_zero_of_no_sems (by decide) r.2⟩)
    (Cert.ReferenceIdeal.Value.run (F := Ideal) m g)

theorem preserves : Cert.preserves_Kernel_KernelIdeal :=
  IdealRules.named_const.statement Cert.KernelIdeal.κ "inv_layers" .f32 0x3DE38E39#32 ((9⁻¹ : ℝ) : EReal) rfl

/-- The ten results, of a memory's arguments. -/
def answers (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v16) :=
  fun j => ((Index.answer (fun i => (m ((c.tc : Thread Cert.KernelIdeal.nD Cert.KernelIdeal.τ).loc Cert.KernelIdeal.main_arg0) i : EReal).toReal)
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3)) (j 0).val : ℝ) : EReal)

theorem algebraic : Cert.algebraic_KernelIdeal_ReferenceIdeal_pre_in_range_and_finite := fun m g m' g' h he =>
  ⟨answers m,
    (θ_run Cert.KernelIdeal.defs _ _).mono
      (fun _ hr c => ⟨(hr.1 c).1.trans (KI.value (Index.real_of_pre (h c)) (Index.bounded_of_finite_pre (h c)).1 c (KI.flat_eq m c) (KI.words_eq m c)), (hr.1 c).2⟩)
      (KI.run_ends (F := Ideal) m g fun d => (Index.bounded_of_finite_pre (h d)).1),
    (θ_run Cert.ReferenceIdeal.defs _ _).mono
      (fun _ hr c => ⟨(hr c).1.trans (Ref.value m' c (fun i => (congrFun (he c).1 i).trans (Index.real_of_pre (h c) i)) (he c).2.1 (he c).2.2.1 (he c).2.2.2
        (Index.bounded_of_finite_pre (h c)).1), (hr c).2⟩)
      (Cert.ReferenceIdeal.Value.run (F := Ideal) m' g')⟩

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.Gen.Pre_indices_in_range
public import proofs.«01_k».proof.Proof.Gen.Pre_in_range_and_finite
public import proofs.«01_k».proof.Proof.Claims
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_indices_in_range.Gen.facts,
    Cert.Pre_in_range_and_finite.Gen.facts, frame_p, frame_pi, frame_pi_finite, frame_ri, frame_ri_finite, preserves, algebraic⟩

end Cert.Proof

end
